-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  bcast_S_S320000x128 : S_.BroadcastsInDim S320000x128 (![] : Fin 0 → Fin S320000x128.rank)
  reducesTo_S320000x128_S_d0_1 : S320000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S319999_S_d0 : S319999.ReducesTo [0] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg1 : IVec S320000 32) (main_arg3 : FVec F S64 .f32) (main_v2 : IVec S319999 1) (main_v16 : IVec S_ 1) (main_cst_4 : FVec F S_ .f32) : IVec S_ 1 :=
  let main_v17 : FVec F S64 .f32 := broadcastInDim S64 ![] bcast_S_S64 main_cst_4
  let main_v18 : IVec S64 1 := cmpf .oge main_arg3 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v16 main_v19
  let main_c_6 : IVec S_ 1 := constantI S_ 1 1#1
  let main_v21 : IVec S_ 1 := (fun x v => Host.reduce IntOp.andi x v reducesTo_S319999_S_d0 h_S_) main_v2 main_c_6
  let main_v22 : IVec S_ 1 := andi main_v20 main_v21
  let main_c_7 : IVec S_ 32 := constantI S_ 32 0#32
  let main_v23 : IVec S320000 32 := broadcastInDim S320000 ![] bcast_S_S320000 main_c_7
  let main_v24 : IVec S320000 1 := cmpi .sge main_arg1 main_v23
  let main_c_8 : IVec S_ 1 := constantI S_ 1 1#1
  let main_v25 : IVec S_ 1 := (fun x v => Host.reduce IntOp.andi x v reducesTo_S320000_S_d0 h_S_) main_v24 main_c_8
  let main_v26 : IVec S_ 1 := andi main_v22 main_v25
  let main_c_9 : IVec S_ 32 := constantI S_ 32 10000#32
  let main_v27 : IVec S320000 32 := broadcastInDim S320000 ![] bcast_S_S320000 main_c_9
  let main_v28 : IVec S320000 1 := cmpi .slt main_arg1 main_v27
  let main_c_10 : IVec S_ 1 := constantI S_ 1 1#1
  let main_v29 : IVec S_ 1 := (fun x v => Host.reduce IntOp.andi x v reducesTo_S320000_S_d0 h_S_) main_v28 main_c_10
  let main_v30 : IVec S_ 1 := andi main_v26 main_v29
  main_v30

def fn {F : FTy → Type} [FloatOps F] (main_arg0 : FVec F S320000x128 .f32) (main_arg1 : IVec S320000 32) (main_arg2 : FVec F S128x64 .f32) (main_arg3 : FVec F S64 .f32) (main_arg4 : FVec F S64 .f32) : IVec S_ 1 :=
  let main_v0 : IVec S319999 32 := (extractStridedSlice S319999 ![0] · slices_S320000_S319999_0) main_arg1
  let main_v1 : IVec S319999 32 := (extractStridedSlice S319999 ![1] · slices_S320000_S319999_1) main_arg1
  let main_v2 : IVec S319999 1 := cmpi .sle main_v0 main_v1
  let main_v3 : FVec F S320000x128 .f32 := Host.absf main_arg0
  let main_cst : FVec F S_ .f32 := constant S_ .f32 0x7F800000#32
  let main_v4 : FVec F S320000x128 .f32 := broadcastInDim S320000x128 ![] bcast_S_S320000x128 main_cst
  let main_v5 : IVec S320000x128 1 := cmpf .olt main_v3 main_v4
  let main_c : IVec S_ 1 := constantI S_ 1 1#1
  let main_v6 : IVec S_ 1 := (fun x v => Host.reduce IntOp.andi x v reducesTo_S320000x128_S_d0_1 h_S_) main_v5 main_c
  let main_v7 : FVec F S128x64 .f32 := Host.absf main_arg2
  let main_cst_0 : FVec F S_ .f32 := constant S_ .f32 0x7F800000#32
  let main_v8 : FVec F S128x64 .f32 := broadcastInDim S128x64 ![] bcast_S_S128x64 main_cst_0
  let main_v9 : IVec S128x64 1 := cmpf .olt main_v7 main_v8
  let main_c_1 : IVec S_ 1 := constantI S_ 1 1#1
  let main_v10 : IVec S_ 1 := (fun x v => Host.reduce IntOp.andi x v reducesTo_S128x64_S_d0_1 h_S_) main_v9 main_c_1
  let main_v11 : IVec S_ 1 := andi main_v6 main_v10
  let main_v12 : FVec F S64 .f32 := Host.absf main_arg3
  let main_cst_2 : FVec F S_ .f32 := constant S_ .f32 0x7F800000#32
  let main_v13 : FVec F S64 .f32 := broadcastInDim S64 ![] bcast_S_S64 main_cst_2
  let main_v14 : IVec S64 1 := cmpf .olt main_v12 main_v13
  let main_c_3 : IVec S_ 1 := constantI S_ 1 1#1
  let main_v15 : IVec S_ 1 := (fun x v => Host.reduce IntOp.andi x v reducesTo_S64_S_d0 h_S_) main_v14 main_c_3
  let main_v16 : IVec S_ 1 := andi main_v11 main_v15
  let main_cst_4 : FVec F S_ .f32 := constant S_ .f32 0x00000000#32
  fn_part1 (F := F) main_arg1 main_arg3 main_v2 main_v16 main_cst_4
-- ==== Kernel.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S250x1x1280 : Shape := ⟨3, ![250, 1, 1280]⟩
abbrev S64x1 : Shape := ⟨2, ![64, 1]⟩
abbrev S250x128x1280 : Shape := ⟨3, ![250, 128, 1280]⟩
abbrev S64x8 : Shape := ⟨2, ![64, 8]⟩
abbrev S1x1x1280 : Shape := ⟨3, ![1, 1, 1280]⟩
abbrev S1280x128 : Shape := ⟨2, ![1280, 128]⟩
abbrev S1x128x1280 : Shape := ⟨3, ![1, 128, 1280]⟩
abbrev S1 : Shape := ⟨1, ![1]⟩
abbrev S1x1280 : Shape := ⟨2, ![1, 1280]⟩
abbrev S64x1280 : Shape := ⟨2, ![64, 1280]⟩
abbrev S1x1 : Shape := ⟨2, ![1, 1]⟩
abbrev S1x1279 : Shape := ⟨2, ![1, 1279]⟩
abbrev S1x2 : Shape := ⟨2, ![1, 2]⟩
abbrev S1x1278 : Shape := ⟨2, ![1, 1278]⟩
abbrev S1x4 : Shape := ⟨2, ![1, 4]⟩
abbrev S1x1276 : Shape := ⟨2, ![1, 1276]⟩
abbrev S1x8 : Shape := ⟨2, ![1, 8]⟩
abbrev S1x1272 : Shape := ⟨2, ![1, 1272]⟩
abbrev S1x16 : Shape := ⟨2, ![1, 16]⟩
abbrev S1x1264 : Shape := ⟨2, ![1, 1264]⟩
abbrev S1x32 : Shape := ⟨2, ![1, 32]⟩
abbrev S1x1248 : Shape := ⟨2, ![1, 1248]⟩
abbrev S1x64 : Shape := ⟨2, ![1, 64]⟩
abbrev S1x1216 : Shape := ⟨2, ![1, 1216]⟩
abbrev S1x128 : Shape := ⟨2, ![1, 128]⟩
abbrev S1x1152 : Shape := ⟨2, ![1, 1152]⟩
abbrev S1x256 : Shape := ⟨2, ![1, 256]⟩
abbrev S1x1024 : Shape := ⟨2, ![1, 1024]⟩
abbrev S1x512 : Shape := ⟨2, ![1, 512]⟩
abbrev S1x768 : Shape := ⟨2, ![1, 768]⟩
abbrev S64x1279 : Shape := ⟨2, ![64, 1279]⟩
abbrev S64x2 : Shape := ⟨2, ![64, 2]⟩
abbrev S64x1278 : Shape := ⟨2, ![64, 1278]⟩
abbrev S64x4 : Shape := ⟨2, ![64, 4]⟩
abbrev S64x1276 : Shape := ⟨2, ![64, 1276]⟩
abbrev S64x1272 : Shape := ⟨2, ![64, 1272]⟩
abbrev S64x16 : Shape := ⟨2, ![64, 16]⟩
abbrev S64x1264 : Shape := ⟨2, ![64, 1264]⟩
abbrev S64x32 : Shape := ⟨2, ![64, 32]⟩
abbrev S64x1248 : Shape := ⟨2, ![64, 1248]⟩
abbrev S64x64 : Shape := ⟨2, ![64, 64]⟩
abbrev S64x1216 : Shape := ⟨2, ![64, 1216]⟩
abbrev S64x128 : Shape := ⟨2, ![64, 128]⟩
abbrev S64x1152 : Shape := ⟨2, ![64, 1152]⟩
abbrev S64x256 : Shape := ⟨2, ![64, 256]⟩
abbrev S64x1024 : Shape := ⟨2, ![64, 1024]⟩
abbrev S64x512 : Shape := ⟨2, ![64, 512]⟩
abbrev S64x768 : Shape := ⟨2, ![64, 768]⟩
abbrev S1x1x1 : Shape := ⟨3, ![1, 1, 1]⟩
abbrev S128x1280 : Shape := ⟨2, ![128, 1280]⟩
abbrev S1x64x1280 : Shape := ⟨3, ![1, 64, 1280]⟩

abbrev nBuf : Space → Nat
  | .hbm => 11
  | .vmem => 19
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S250x1x1280, .i32⟩
  | .hbm, ⟨6, _⟩ => ⟨S64x1, .f32⟩
  | .hbm, ⟨7, _⟩ => ⟨S64x1, .f32⟩
  | .hbm, ⟨8, _⟩ => ⟨S250x128x1280, .f32⟩
  | .hbm, ⟨9, _⟩ => ⟨S64x8, .f32⟩
  | .hbm, ⟨10, _⟩ => ⟨S320000x128, .f32⟩
  | .local _ .vmem, ⟨0, _⟩ => ⟨S1x1x1280, .i32⟩
  | .local _ .vmem, ⟨1, _⟩ => ⟨S1x1x1280, .i32⟩
  | .local _ .vmem, ⟨2, _⟩ => ⟨S1280x128, .f32⟩
  | .local _ .vmem, ⟨3, _⟩ => ⟨S1280x128, .f32⟩
  | .local _ .vmem, ⟨4, _⟩ => ⟨S128x64, .f32⟩
  | .local _ .vmem, ⟨5, _⟩ => ⟨S1x128x1280, .f32⟩
  | .local _ .vmem, ⟨6, _⟩ => ⟨S1x128x1280, .f32⟩
  | .local _ .vmem, ⟨7, _⟩ => ⟨S64x8, .f32⟩
  | .local _ .vmem, ⟨8, _⟩ => ⟨S64x8, .f32⟩
  | .local _ .vmem, ⟨9, _⟩ => ⟨S1x1x1280, .i32⟩
  | .local _ .vmem, ⟨10, _⟩ => ⟨S1x1x1280, .i32⟩
  | .local _ .vmem, ⟨11, _⟩ => ⟨S1x128x1280, .f32⟩
  | .local _ .vmem, ⟨12, _⟩ => ⟨S1x128x1280, .f32⟩
  | .local _ .vmem, ⟨13, _⟩ => ⟨S64x8, .f32⟩
  | .local _ .vmem, ⟨14, _⟩ => ⟨S64x1, .f32⟩
  | .local _ .vmem, ⟨15, _⟩ => ⟨S64x1, .f32⟩
  | .local _ .vmem, ⟨16, _⟩ => ⟨S1280x128, .f32⟩
  | .local _ .vmem, ⟨17, _⟩ => ⟨S1280x128, .f32⟩
  | .local _ .vmem, ⟨18, _⟩ => ⟨S64x8, .f32⟩
  | .local _ .smem, ⟨0, _⟩ => ⟨S1, .i32⟩
  | .local _ .smem, ⟨1, _⟩ => ⟨S1, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3_0 : Ref sig .tc := ⟨.hbm, 8, rfl⟩
abbrev main_call0_v3_1 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_scratch1 : Ref sig .tc := ⟨.smem, 0, rfl⟩
abbrev cc1_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![250], ![false]⟩

def cc1_transform_0 (i : grid1.Coords) : Fin 3 → Nat :=
  let arg0 : BitVec 32 := BitVec.ofNat 32 (i 0).val
  let c249_i32 : BitVec 32 := 249#32
  let v0 : BitVec 32 := Scalar.subi c249_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c249_i32 : BitVec 32 := 249#32
  let v0 : BitVec 32 := Scalar.subi c249_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c249_i32 : BitVec 32 := 249#32
  let v0 : BitVec 32 := Scalar.subi c249_i32 arg0
  let c0_i32 : BitVec 32 := 0#32
  let c0_i32_0 : BitVec 32 := 0#32
  ![v0.toNat, c0_i32.toNat]

abbrev stage1_0 : Fin 2 → Memref sig .tc .vmem S1x1x1280 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1280x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S320000x128 : Shape := ⟨2, ![320000, 128]⟩
abbrev S320000 : Shape := ⟨1, ![320000]⟩
abbrev S128x64 : Shape := ⟨2, ![128, 64]⟩
abbrev S64 : Shape := ⟨1, ![64]⟩
abbrev S320000x64 : Shape := ⟨2, ![320000, 64]⟩
abbrev S_ : Shape := ⟨0, ![]⟩
abbrev S1x64 : Shape := ⟨2, ![1, 64]⟩
abbrev S1x320000x1 : Shape := ⟨3, ![1, 320000, 1]⟩
abbrev S10000 : Shape := ⟨1, ![10000]⟩
abbrev S10000x1x1 : Shape := ⟨3, ![10000, 1, 1]⟩
abbrev S10000x320000x1 : Shape := ⟨3, ![10000, 320000, 1]⟩
abbrev S1x320000x64 : Shape := ⟨3, ![1, 320000, 64]⟩
abbrev S10000x320000x64 : Shape := ⟨3, ![10000, 320000, 64]⟩
abbrev S10000x64 : Shape := ⟨2, ![10000, 64]⟩
abbrev S320000x1 : Shape := ⟨2, ![320000, 1]⟩

abbrev nBuf : Space → Nat
  | .hbm => 64
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S320000x64, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S320000x64, .f32⟩
  | .hbm, ⟨13, _⟩ => ⟨S320000x64, .f32⟩
  | .hbm, ⟨14, _⟩ => ⟨S320000x64, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S320000x64, .f32⟩
  | .hbm, ⟨22, _⟩ => ⟨S320000x64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64, .f32⟩
  | .hbm, ⟨28, _⟩ => ⟨S320000x64, .f32⟩
  | .hbm, ⟨29, _⟩ => ⟨S320000x64, .f32⟩
  | .hbm, ⟨30, _⟩ => ⟨S1x64, .f32⟩
  | .hbm, ⟨31, _⟩ => ⟨S320000x64, .f32⟩
  | .hbm, ⟨32, _⟩ => ⟨S320000x64, .f32⟩
  | .hbm, ⟨33, _⟩ => ⟨S1x64, .f32⟩
  | .hbm, ⟨34, _⟩ => ⟨S320000x64, .f32⟩
  | .hbm, ⟨35, _⟩ => ⟨S320000x64, .f32⟩
  | .hbm, ⟨36, _⟩ => ⟨S_, .f32⟩
  | .hbm, ⟨37, _⟩ => ⟨S320000x64, .f32⟩
  | .hbm, ⟨38, _⟩ => ⟨S320000x64, .f32⟩
  | .hbm, ⟨39, _⟩ => ⟨S1x320000x1, .i32⟩
  | .hbm, ⟨40, _⟩ => ⟨S10000, .i32⟩
  | .hbm, ⟨41, _⟩ => ⟨S10000x1x1, .i32⟩
  | .hbm, ⟨42, _⟩ => ⟨S10000x320000x1, .i32⟩
  | .hbm, ⟨43, _⟩ => ⟨S10000x320000x1, .i32⟩
  | .hbm, ⟨44, _⟩ => ⟨S10000x320000x1, .i1⟩
  | .hbm, ⟨45, _⟩ => ⟨S1x320000x64, .f32⟩
  | .hbm, ⟨46, _⟩ => ⟨S_, .f32⟩
  | .hbm, ⟨47, _⟩ => ⟨S_, .f32⟩
  | .hbm, ⟨48, _⟩ => ⟨S10000x320000x64, .i1⟩
  | .hbm, ⟨49, _⟩ => ⟨S10000x320000x64, .f32⟩
  | .hbm, ⟨50, _⟩ => ⟨S10000x320000x64, .f32⟩
  | .hbm, ⟨51, _⟩ => ⟨S10000x320000x64, .f32⟩
  | .hbm, ⟨52, _⟩ => ⟨S_, .f32⟩
  | .hbm, ⟨53, _⟩ => ⟨S10000x64, .f32⟩
  | .hbm, ⟨54, _⟩ => ⟨S_, .i32⟩
  | .hbm, ⟨55, _⟩ => ⟨S320000, .i32⟩
  | .hbm, ⟨56, _⟩ => ⟨S320000, .i1⟩
  | .hbm, ⟨57, _⟩ => ⟨S_, .i32⟩
  | .hbm, ⟨58, _⟩ => ⟨S320000, .i32⟩
  | .hbm, ⟨59, _⟩ => ⟨S320000, .i32⟩
  | .hbm, ⟨60, _⟩ => ⟨S320000, .i32⟩
  | .hbm, ⟨61, _⟩ => ⟨S320000x1, .i32⟩
  | .hbm, ⟨62, _⟩ => ⟨S320000x64, .f32⟩
  | .hbm, ⟨63, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.KI.Step.lean ====
/- One grid step of each of the two regions, as plain functions.

   The first region keeps three things between steps: the running sums in its second output (column 0 the sum of the
   projected rows, column 1 of their squares), a carried column of running segment maxima, and the last segment number
   it has seen. The second keeps a carried column and a segment number. A load is `window`, a store `put`. -/
module

public import proofs.«01_k».proof.Proof.Gen.KernelIdeal.Skeleton
public import Idealize.ShloMosaic.Lib.VecWindow

@[expose] public section

noncomputable section

namespace Cert.KernelIdeal.Own

open Idealize.ShloMosaic Idealize.ShloMosaic.VecWindow
open Cert.KernelIdeal.Gen

variable {F : FTy → Type} [FloatOps F]

/-- The only index of a one-word array. -/
def word0 : S1.Idx := Shape.Idx.first (by decide)

/-- The projected block, units by lanes. -/
def fwdX (x1 : Vec F S1280x128 .f32) (x2 : Vec F S128x64 .f32) : FVec F S64x1280 .f32 := k0_pay6 x2 x1

/-- The lane numbers. -/
def lanes : IVec S1x1280 32 := iota .tc S1x1280 32 [1] iota_S1x1280_d1_w32

/-- A lane's distance to the first lane of its run, as the first region computes it. -/
def fwdD (x0 : Vec F S1x1x1280 .i32) : IVec S1x1280 32 :=
  k0_pay15 lanes (k0_pay11 lanes (k0_pay7 x0) k0_pay8 (k0_pay9 x0) k0_pay10) (k0_pay12 lanes)
    (k0_pay13 lanes (k0_pay7 x0) k0_pay8 (k0_pay9 x0) k0_pay10) k0_pay14

/-- The first region's scan after its first five rounds. -/
def fwdP (x0 : Vec F S1x1x1280 .i32) (x1 : Vec F S1280x128 .f32) (x2 : Vec F S128x64 .f32) : FVec F S64x1280 .f32 :=
  k0_pay16 (fwdX x1 x2) lanes (k0_pay11 lanes (k0_pay7 x0) k0_pay8 (k0_pay9 x0) k0_pay10) (k0_pay12 lanes)
    (k0_pay13 lanes (k0_pay7 x0) k0_pay8 (k0_pay9 x0) k0_pay10) k0_pay14

/-- Which lanes the sixth round reaches. -/
def fwdQ (x0 : Vec F S1x1x1280 .i32) : IVec S1x1280 1 :=
  k0_pay17 lanes (k0_pay11 lanes (k0_pay7 x0) k0_pay8 (k0_pay9 x0) k0_pay10) (k0_pay12 lanes)
    (k0_pay13 lanes (k0_pay7 x0) k0_pay8 (k0_pay9 x0) k0_pay10) k0_pay14

/-- What the sixth round compares with. -/
def fwdR (x0 : Vec F S1x1x1280 .i32) (x1 : Vec F S1280x128 .f32) (x2 : Vec F S128x64 .f32) : FVec F S64x1280 .f32 :=
  k0_pay18 (fwdX x1 x2) lanes (k0_pay11 lanes (k0_pay7 x0) k0_pay8 (k0_pay9 x0) k0_pay10) (k0_pay12 lanes)
    (k0_pay13 lanes (k0_pay7 x0) k0_pay8 (k0_pay9 x0) k0_pay10) k0_pay14

/-- The first region's scan after all but its last round. -/
def fwdU (x0 : Vec F S1x1x1280 .i32) (x1 : Vec F S1280x128 .f32) (x2 : Vec F S128x64 .f32) : FVec F S64x1280 .f32 :=
  k0_pay19 (fwdD x0) (fwdP x0 x1 x2) (fwdQ x0) (fwdR x0 x1 x2)

/-- What the last round compares with. -/
def fwdV (x0 : Vec F S1x1x1280 .i32) (x1 : Vec F S1280x128 .f32) (x2 : Vec F S128x64 .f32) : FVec F S64x1280 .f32 :=
  k0_pay21 (fwdD x0) (fwdP x0 x1 x2) (fwdQ x0) (fwdR x0 x1 x2)

/-- The carried column as a step reads it. -/
def col (s : Vec F S64x8 .f32) : Vec F S64x1 .f32 := window s ![0, 0] S64x1.size inb_S64x8_S64x1_0_0

/-- The second column of the running sums. -/
def col1 (s : Vec F S64x8 .f32) : Vec F S64x1 .f32 := window s ![0, 1] S64x1.size inb_S64x8_S64x1_0_1

/-- The block's segment maxima up to each lane, the carried column taken in. -/
def fwdF (x0 : Vec F S1x1x1280 .i32) (x1 : Vec F S1280x128 .f32) (x2 : Vec F S128x64 .f32)
    (s : Vec F S64x8 .f32) (n : Vec F S1 .i32) : FVec F S64x1280 .f32 :=
  k0_pay22 (k0_pay5 x0) (fwdD x0) (fwdU x0 x1 x2) (k0_pay20 (fwdD x0)) (fwdV x0 x1 x2) (n word0) (col s)

/-- The carried column a step leaves. -/
def fwdCol (x0 : Vec F S1x1x1280 .i32) (x1 : Vec F S1280x128 .f32) (x2 : Vec F S128x64 .f32)
    (s : Vec F S64x8 .f32) (n : Vec F S1 .i32) : FVec F S64x1 .f32 :=
  k0_pay23 (k0_pay5 x0) (fwdD x0) (fwdU x0 x1 x2) (k0_pay20 (fwdD x0)) (fwdV x0 x1 x2) (n word0) (col s)

/-- The carried array a step leaves. -/
def fwdCarry (x0 : Vec F S1x1x1280 .i32) (x1 : Vec F S1280x128 .f32) (x2 : Vec F S128x64 .f32)
    (s : Vec F S64x8 .f32) (n : Vec F S1 .i32) : Vec F S64x8 .f32 :=
  put s ![0, 0] S64x1.size (fwdCol x0 x1 x2 s n)

/-- The segment number a step leaves: the block's largest. -/
def fwdSeg (x0 : Vec F S1x1x1280 .i32) : Vec F S1 .i32 :=
  fun _ => extractAt ![0, 0, 0] (k0_pay24 (k0_pay5 x0)) inpos_S1x1x1_p0_0_0

/-- The running sums with the block's sum added. -/
def fwdSum1 (x1 : Vec F S1280x128 .f32) (x2 : Vec F S128x64 .f32) (a : Vec F S64x8 .f32) : Vec F S64x8 .f32 :=
  put a ![0, 0] S64x1.size (k0_pay25 (fwdX x1 x2) (col a))

/-- The running sums a step leaves: the block's sum of squares added too. -/
def fwdSums (x1 : Vec F S1280x128 .f32) (x2 : Vec F S128x64 .f32) (a : Vec F S64x8 .f32) : Vec F S64x8 .f32 :=
  put (fwdSum1 x1 x2 a) ![0, 1] S64x1.size (k0_pay1 (k0_pay26 (col1 a)) (k0_pay27 (fwdX x1 x2)))

/-- A store into the first column leaves the second. -/
theorem col1_put (a : Vec F S64x8 .f32) (w : Vec F S64x1 .f32) : col1 (put a ![0, 0] S64x1.size w) = col1 a :=
  window_put_of_disjoint a _ _ _ _ inb_S64x8_S64x1_0_1 w 1 (.inr (by decide))

/-- The block a step of the first region writes: the projected rows over the running maxima. -/
def fwdOut (x0 : Vec F S1x1x1280 .i32) (x1 : Vec F S1280x128 .f32) (x2 : Vec F S128x64 .f32)
    (s : Vec F S64x8 .f32) (n : Vec F S1 .i32) : Vec F S1x128x1280 .f32 :=
  k0_pay2 (fwdX x1 x2) (fwdF x0 x1 x2 s n)

/-- The running maxima half of a block. -/
def bwdF (y : Vec F S1x128x1280 .f32) : FVec F S64x1280 .f32 :=
  k1_pay4 (window y ![0, 64, 0] S1x64x1280.size inb_S1x128x1280_S1x64x1280_0_64_0)

/-- The distance scan of the second region after its first five rounds. -/
def bwdE (x0 : Vec F S1x1x1280 .i32) : IVec S1x1280 32 := k1_pay6 lanes (k1_pay5 x0) 1272#32

/-- A lane's distance to the last lane of its run, as the second region computes it. -/
def bwdD (x0 : Vec F S1x1x1280 .i32) : IVec S1x1280 32 := k1_pay7 lanes (bwdE x0) 768#32

/-- The second region's scan. -/
def bwdU (x0 : Vec F S1x1x1280 .i32) (y : Vec F S1x128x1280 .f32) : FVec F S64x1280 .f32 :=
  k1_pay9 (bwdD x0) (k1_pay8 (bwdF y) lanes (bwdE x0) 768#32)

/-- The segment maxima of a block's lanes, the carried column taken in. -/
def bwdM (x0 : Vec F S1x1x1280 .i32) (y : Vec F S1x128x1280 .f32) (s : Vec F S64x8 .f32) (n : Vec F S1 .i32) :
    FVec F S64x1280 .f32 :=
  k1_pay10 (k1_pay3 x0) (bwdD x0) (bwdU x0 y) (n word0) (col s)

/-- The carried array a step of the second region leaves. -/
def bwdCarry (x0 : Vec F S1x1x1280 .i32) (y : Vec F S1x128x1280 .f32) (s : Vec F S64x8 .f32) (n : Vec F S1 .i32) :
    Vec F S64x8 .f32 :=
  put s ![0, 0] S64x1.size (k1_pay11 (k1_pay3 x0) (bwdD x0) (bwdU x0 y) (n word0) (col s))

/-- The segment number a step of the second region leaves: the block's smallest. -/
def bwdSeg (x0 : Vec F S1x1x1280 .i32) : Vec F S1 .i32 :=
  fun _ => extractAt ![0, 0, 0] (k1_pay12 (k1_pay3 x0)) inpos_S1x1x1_p0_0_0

/-- The block a step of the second region writes. -/
def bwdOut (x0 : Vec F S1x1x1280 .i32) (y : Vec F S1x128x1280 .f32) (a : Vec F S64x8 .f32) (g b : Vec F S64x1 .f32)
    (s : Vec F S64x8 .f32) (n : Vec F S1 .i32) : Vec F S1280x128 .f32 :=
  k1_pay1 (bwdM x0 y s n) (k1_pay13 (col a)) (k1_pay14 (col a) (col1 a)) g b
    (window y ![0, 0, 0] S1x64x1280.size inb_S1x128x1280_S1x64x1280_0_0_0)

/-- The segment number before the first step, no segment's. -/
def seg0 : Vec F S1 .i32 := fun _ => 4294967295#32

end Cert.KernelIdeal.Own

end
-- ==== Proof.KI.Run0.lean ====
/- The body of the first region, run: from whole staging buffers at known contents it ends with the step functions' values. -/
module

public import proofs.«01_k».proof.Proof.KI.Step
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The branch of the first region's body: whether this is the first step. -/
abbrev first0 (i : grid0.Coords) : Prop :=
  Scalar.cmpi .ne (Scalar.extui (Scalar.cmpi .eq (BitVec.ofNat 32 (i 0).val) 0#32)) 0#32 = 1#1

/-- Reading the first column after a store of the whole array. -/
theorem readCov_col {sp : Space} (v : View sig .tc sp S64x8 .f32) (w : Vec F S64x8 .f32) :
    v.readCov (Val := Elt F) [⟨Rect.unit ![0, 0] S64x8.size inb_S64x8_S64x8_0_0, w⟩]
      (Rect.unit (s := S64x8) ![0, 0] S64x1.size inb_S64x8_S64x1_0_0).toLoadRect = col w := by
  unfold View.readCov
  rw [View.readAt_unit v _ inb_S64x8_S64x1_0_0 rfl inb_S64x8_S64x1_0_0, View.read_writes_full (s := S64x8)]
  rfl

/-- Reading the second column after a store of the whole array and one into the first column. -/
theorem readCov_col1 {sp : Space} (v : View sig .tc sp S64x8 .f32) (w : Vec F S64x8 .f32) (u : Vec F S64x1 .f32) :
    v.readCov (Val := Elt F) [⟨Rect.unit ![0, 0] S64x1.size inb_S64x8_S64x1_0_0, u⟩,
        ⟨Rect.unit ![0, 0] S64x8.size inb_S64x8_S64x8_0_0, w⟩]
      (Rect.unit (s := S64x8) ![0, 1] S64x1.size inb_S64x8_S64x1_0_1).toLoadRect = col1 w := by
  unfold View.readCov
  rw [View.readAt_unit v _ inb_S64x8_S64x1_0_1 rfl inb_S64x8_S64x1_0_1,
    View.read_writes_cons_put (s := S64x8) _ _ _ _ _ rfl, View.read_writes_full (s := S64x8)]
  exact col1_put w u

set_option maxHeartbeats 2000000 in
/-- A step after the first: the carried values go through the step functions. -/
theorem run0_later (c : Dev nD) (i : grid0.Coords) (arg1 : Memref sig .tc .vmem S1x1x1280 .i32) (harg1 : arg1.IsWhole)
    (arg2 : Memref sig .tc .vmem S1280x128 .f32) (harg2 : arg2.IsWhole)
    (arg3 : Memref sig .tc .vmem S128x64 .f32) (harg3 : arg3.IsWhole)
    (arg4 : Memref sig .tc .vmem S1x128x1280 .f32) (harg4 : arg4.IsWhole)
    (arg5 : Memref sig .tc .vmem S64x8 .f32) (harg5 : arg5.IsWhole)
    (arg6 : Memref sig .tc .vmem S64x8 .f32) (harg6 : arg6.IsWhole)
    (arg7 : Memref sig .tc .smem S1 .i32) (harg7 : arg7.IsWhole) (hc : ¬ first0 i)
    (x0 : Vec F S1x1x1280 .i32) (x1 : Vec F S1280x128 .f32) (x2 : Vec F S128x64 .f32)
    (a s : Vec F S64x8 .f32) (n : Vec F S1 .i32) (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ owns (c : Thread nD τ) arg5 fullShare a ∗ owns (c : Thread nD τ) arg6 fullShare s
        ∗ owns (c : Thread nD τ) arg7 fullShare n
        ∗ (iprop(owns (c : Thread nD τ) arg1 fullShare x0 ∗ owns (c : Thread nD τ) arg2 fullShare x1
            ∗ owns (c : Thread nD τ) arg3 fullShare x2 ∗ owns (c : Thread nD τ) arg4 fullShare (fwdOut x0 x1 x2 s n)
            ∗ owns (c : Thread nD τ) arg5 fullShare (fwdSums x1 x2 a)
            ∗ owns (c : Thread nD τ) arg6 fullShare (fwdCarry x0 x1 x2 s n)
            ∗ owns (c : Thread nD τ) arg7 fullShare (fwdSeg x0)) -∗ K ⟨⟩))
      ⊢ wp frame (wpE (defs₀ (F := F)) Variants.none c none) E
          (cc0__fwd_kernel i arg1 harg1 arg2 harg2 arg3 harg3 arg4 harg4 arg5 harg5 arg6 harg6 arg7 harg7) K := by
  simp only [cc0__fwd_kernel_eq_skeleton]
  unfold cc0__fwd_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg1.eq_unread hf0
  obtain rfl := harg2.eq_unread hf1
  obtain rfl := harg3.eq_unread hf2
  obtain rfl := harg5.eq_unread hf4
  obtain rfl := harg6.eq_unread hf5
  obtain rfl := harg7.eq_unread hf6
  have e0 := (View.readAt_full (Val := Elt F) arg1.view (harg1.unread x0) (off := ![0, 0, 0]) inb_S1x1x1280_S1x1x1280_0_0_0).trans hf0
  have e1 := (View.readAt_full (Val := Elt F) arg2.view (harg2.unread x1) (off := ![0, 0]) inb_S1280x128_S1280x128_0_0).trans hf1
  have e2 := (View.readAt_full (Val := Elt F) arg3.view (harg3.unread x2) (off := ![0, 0]) inb_S128x64_S128x64_0_0).trans hf2
  have e5 := (View.readAt_unit (Val := Elt F) arg6.view (harg6.unread s) inb_S64x8_S64x1_0_0 rfl inb_S64x8_S64x1_0_0)
  rw [hf5] at e5
  have e4 := (View.readAt_unit (Val := Elt F) arg5.view (harg5.unread a) inb_S64x8_S64x1_0_0 rfl inb_S64x8_S64x1_0_0)
  rw [hf4] at e4
  have e6 := (View.readAt_unit (Val := Elt F) arg5.view (harg5.unread a) inb_S64x8_S64x1_0_1 rfl inb_S64x8_S64x1_0_1)
  rw [hf4] at e6
  have e7 := (View.readAt_full (Val := Elt F) arg7.view (harg7.unread n) (off := ![0]) inb_S1_S1_0).trans hf6
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_full (s := S1x128x1280) _ _ _ _ _).trans ?_
    sl_unfold_words
    rfl
  isplitl [H4]
  · iexists _; isplitr; swap; · iexact H4
    ipureintro
    refine (View.read_writes_cons_put _ _ _ _ _ rfl).trans ?_
    sl_unfold_words
    rw [View.read_writes_cons_put (s := S64x8) _ _ _ _ _ rfl, View.writes_nil, hf4]
    rfl
  isplitl [H5]
  · iexists _; isplitr; swap; · iexact H5
    ipureintro
    refine (View.read_writes_cons_put _ _ _ _ _ rfl).trans ?_
    sl_unfold_words
    rw [View.writes_nil, hf5]
    rfl
  · iexists _; isplitr; swap; · iexact H6
    ipureintro
    refine (View.read_writes_full (s := S1) _ _ _ _ _).trans ?_
    sl_unfold_words
    rfl

set_option maxHeartbeats 2000000 in
/-- The first step: whatever the scratch buffers held, the step starts from the initial values. -/
theorem run0_first (c : Dev nD) (i : grid0.Coords) (arg1 : Memref sig .tc .vmem S1x1x1280 .i32) (harg1 : arg1.IsWhole)
    (arg2 : Memref sig .tc .vmem S1280x128 .f32) (harg2 : arg2.IsWhole)
    (arg3 : Memref sig .tc .vmem S128x64 .f32) (harg3 : arg3.IsWhole)
    (arg4 : Memref sig .tc .vmem S1x128x1280 .f32) (harg4 : arg4.IsWhole)
    (arg5 : Memref sig .tc .vmem S64x8 .f32) (harg5 : arg5.IsWhole)
    (arg6 : Memref sig .tc .vmem S64x8 .f32) (harg6 : arg6.IsWhole)
    (arg7 : Memref sig .tc .smem S1 .i32) (harg7 : arg7.IsWhole) (hc : first0 i)
    (x0 : Vec F S1x1x1280 .i32) (x1 : Vec F S1280x128 .f32) (x2 : Vec F S128x64 .f32)
    (a s : Vec F S64x8 .f32) (n : Vec F S1 .i32) (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ owns (c : Thread nD τ) arg5 fullShare a ∗ owns (c : Thread nD τ) arg6 fullShare s
        ∗ owns (c : Thread nD τ) arg7 fullShare n
        ∗ (iprop(owns (c : Thread nD τ) arg1 fullShare x0 ∗ owns (c : Thread nD τ) arg2 fullShare x1
            ∗ owns (c : Thread nD τ) arg3 fullShare x2 ∗ owns (c : Thread nD τ) arg4 fullShare (fwdOut x0 x1 x2 k0_pay3 seg0)
            ∗ owns (c : Thread nD τ) arg5 fullShare (fwdSums x1 x2 k0_pay4)
            ∗ owns (c : Thread nD τ) arg6 fullShare (fwdCarry x0 x1 x2 k0_pay3 seg0)
            ∗ owns (c : Thread nD τ) arg7 fullShare (fwdSeg x0)) -∗ K ⟨⟩))
      ⊢ wp frame (wpE (defs₀ (F := F)) Variants.none c none) E
          (cc0__fwd_kernel i arg1 harg1 arg2 harg2 arg3 harg3 arg4 harg4 arg5 harg5 arg6 harg6 arg7 harg7) K := by
  simp only [cc0__fwd_kernel_eq_skeleton]
  unfold cc0__fwd_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  obtain rfl := harg1.eq_unread hf0
  obtain rfl := harg2.eq_unread hf1
  obtain rfl := harg3.eq_unread hf2
  obtain rfl := harg5.eq_unread hf4
  obtain rfl := harg6.eq_unread hf5
  obtain rfl := harg7.eq_unread hf6
  have e0 := (View.readAt_full (Val := Elt F) arg1.view (harg1.unread x0) (off := ![0, 0, 0]) inb_S1x1x1280_S1x1x1280_0_0_0).trans hf0
  have e1 := (View.readAt_full (Val := Elt F) arg2.view (harg2.unread x1) (off := ![0, 0]) inb_S1280x128_S1280x128_0_0).trans hf1
  have e2 := (View.readAt_full (Val := Elt F) arg3.view (harg3.unread x2) (off := ![0, 0]) inb_S128x64_S128x64_0_0).trans hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_full (s := S1x128x1280) _ _ _ _ _).trans ?_
    sl_unfold_words
    rw [readCov_col]
    rfl
  isplitl [H4]
  · iexists _; isplitr; swap; · iexact H4
    ipureintro
    refine (View.read_writes_cons_put _ _ _ _ _ rfl).trans ?_
    sl_unfold_words
    rw [View.read_writes_cons_put (s := S64x8) _ _ _ _ _ rfl, View.read_writes_full (s := S64x8), readCov_col, readCov_col1]
    rfl
  isplitl [H5]
  · iexists _; isplitr; swap; · iexact H5
    ipureintro
    refine (View.read_writes_cons_put _ _ _ _ _ rfl).trans ?_
    sl_unfold_words
    rw [View.read_writes_full (s := S64x8), readCov_col]
    rfl
  · iexists _; isplitr; swap; · iexact H6
    ipureintro
    refine (View.read_writes_full (s := S1) _ _ _ _ _).trans ?_
    sl_unfold_words
    rfl

end Cert.KernelIdeal.Own

end
-- ==== Proof.KI.Run1.lean ====
/- The body of the second region, run: from whole staging buffers at known contents it ends with the step functions' values. -/
module

public import proofs.«01_k».proof.Proof.KI.Run0
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The branch of the second region's body: whether this is the first step. -/
abbrev first1 (i : grid1.Coords) : Prop :=
  Scalar.cmpi .ne (Scalar.extui (Scalar.cmpi .eq (BitVec.ofNat 32 (i 0).val) 0#32)) 0#32 = 1#1

set_option maxHeartbeats 2000000 in
/-- A step after the first: the carried values go through the step functions. -/
theorem run1_later (c : Dev nD) (i : grid1.Coords) (arg1 : Memref sig .tc .vmem S1x1x1280 .i32) (harg1 : arg1.IsWhole)
    (arg2 : Memref sig .tc .vmem S1x128x1280 .f32) (harg2 : arg2.IsWhole)
    (arg3 : Memref sig .tc .vmem S64x8 .f32) (harg3 : arg3.IsWhole)
    (arg4 : Memref sig .tc .vmem S64x1 .f32) (harg4 : arg4.IsWhole)
    (arg5 : Memref sig .tc .vmem S64x1 .f32) (harg5 : arg5.IsWhole)
    (arg6 : Memref sig .tc .vmem S1280x128 .f32) (harg6 : arg6.IsWhole)
    (arg7 : Memref sig .tc .vmem S64x8 .f32) (harg7 : arg7.IsWhole)
    (arg8 : Memref sig .tc .smem S1 .i32) (harg8 : arg8.IsWhole) (hc : ¬ first1 i)
    (x0 : Vec F S1x1x1280 .i32) (y : Vec F S1x128x1280 .f32) (a : Vec F S64x8 .f32) (g b : Vec F S64x1 .f32)
    (s : Vec F S64x8 .f32) (n : Vec F S1 .i32) (E : Set ℕ) (K : PUnit → sProp 𝕄) :
    iprop(owns (c : Thread nD τ) arg1 fullShare x0 ∗ owns (c : Thread nD τ) arg2 fullShare y
        ∗ owns (c : Thread nD τ) arg3 fullShare a ∗ owns (c : Thread nD τ) arg4 fullShare g
        ∗ owns (c : Thread nD τ) arg5 fullShare b ∗ (∃ d, owns (c : Thread nD τ) arg6 fullShare d)
        ∗ owns (c : Thread nD τ) arg7 fullShare s ∗ owns (c : Thread nD τ) arg8 fullShare n
        ∗ (iprop(owns (c : Thread nD τ) arg1 fullShare x0 ∗ owns (c : Thread nD τ) arg2 fullShare y
            ∗ owns (c : Thread nD τ) arg3 fullShare a ∗ owns (c : Thread nD τ) arg4 fullShare g
            ∗ owns (c : Thread nD τ) arg5 fullShare b ∗ owns (c : Thread nD τ) arg6 fullShare (bwdOut x0 y a g b s n)
            ∗ owns (c : Thread nD τ) arg7 fullShare (bwdCarry x0 y s n)
            ∗ owns (c : Thread nD τ) arg8 fullShare (bwdSeg x0)) -∗ K ⟨⟩))
      ⊢ wp frame (wpE (defs₀ (F := F)) Variants.none c none) E
          (cc1__bwd_kernel i arg1 harg1 arg2 harg2 arg3 harg3 arg4 harg4 arg5 harg5 arg6 harg6 arg7 harg7 arg8 harg8) K := by
  simp only [cc1__bwd_kernel_eq_skeleton]
  unfold cc1__bwd_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  obtain rfl := harg8.eq_unread hf7
  have e0 := (View.readAt_full (Val := Elt F) arg1.view (harg1.unread x0) (off := ![0, 0, 0]) inb_S1x1x1280_S1x1x1280_0_0_0).trans hf0
  have e1 := View.readAt_unit (Val := Elt F) arg2.view (harg2.unread y) inb_S1x128x1280_S1x64x1280_0_64_0 rfl inb_S1x128x1280_S1x64x1280_0_64_0
  rw [hf1] at e1
  have e1' := View.readAt_unit (Val := Elt F) arg2.view (harg2.unread y) inb_S1x128x1280_S1x64x1280_0_0_0 rfl inb_S1x128x1280_S1x64x1280_0_0_0
  rw [hf1] at e1'
  have e2 := View.readAt_unit (Val := Elt F) arg3.view (harg3.unread a) inb_S64x8_S64x1_0_0 rfl inb_S64x8_S64x1_0_0
  rw [hf2] at e2
  have e2' := View.readAt_unit (Val := Elt F) arg3.view (harg3.unread a) inb_S64x8_S64x1_0_1 rfl inb_S64x8_S64x1_0_1
  rw [hf2] at e2'
  have e3 := (View.readAt_full (Val := Elt F) arg4.view (harg4.unread g) (off := ![0, 0]) inb_S64x1_S64x1_0_0).trans hf3
  have e4 := (View.readAt_full (Val := Elt F) arg5.view (harg5.unread b) (off := ![0, 0]) inb_S64x1_S64x1_0_0).trans hf4
  have e6 := View.readAt_unit (Val := Elt F) arg7.view (harg7.unread s) inb_S64x8_S64x1_0_0 rfl inb_S64x8_S64x1_0_0
  rw [hf6] at e6
  have e7 := (View.readAt_full (Val := Elt F) arg8.view (harg8.unread n) (off := ![0]) inb_S1_S1_0).trans hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_full (s := S1280x128) _ _ _ _ _).trans ?_
    sl_unfold_words
    rfl
  isplitl [H6]
  · iexists _; isplitr; swap; · iexact H6
    ipureintro
    refine (View.read_writes_cons_put _ _ _ _ _ rfl).trans ?_
    sl_unfold_words
    rw [View.writes_nil, hf6]
    rfl
  · iexists _; isplitr; swap; · iexact H7
    ipureintro
    refine (View.read_writes_full (s := S1) _ _ _ _ _).trans ?_
    sl_unfold_words
    rfl

set_option maxHeartbeats 2000000 in
/-- The first step: whatever the scratch buffers held, the step starts from the initial values. -/
theorem run1_first (c : Dev nD) (i : grid1.Coords) (arg1 : Memref sig .tc .vmem S1x1x1280 .i32) (harg1 : arg1.IsWhole)
    (arg2 : Memref sig .tc .vmem S1x128x1280 .f32) (harg2 : arg2.IsWhole)
    (arg3 : Memref sig .tc .vmem S64x8 .f32) (harg3 : arg3.IsWhole)
    (arg4 : Memref sig .tc .vmem S64x1 .f32) (harg4 : arg4.IsWhole)
    (arg5 : Memref sig .tc .vmem S64x1 .f32) (harg5 : arg5.IsWhole)
    (arg6 : Memref sig .tc .vmem S1280x128 .f32) (harg6 : arg6.IsWhole)
    (arg7 : Memref sig .tc .vmem S64x8 .f32) (harg7 : arg7.IsWhole)
    (arg8 : Memref sig .tc .smem S1 .i32) (harg8 : arg8.IsWhole) (hc : first1 i)
    (x0 : Vec F S1x1x1280 .i32) (y : Vec F S1x128x1280 .f32) (a : Vec F S64x8 .f32) (g b : Vec F S64x1 .f32)
    (s : Vec F S64x8 .f32) (n : Vec F S1 .i32) (E : Set ℕ) (K : PUnit → sProp 𝕄) :
    iprop(owns (c : Thread nD τ) arg1 fullShare x0 ∗ owns (c : Thread nD τ) arg2 fullShare y
        ∗ owns (c : Thread nD τ) arg3 fullShare a ∗ owns (c : Thread nD τ) arg4 fullShare g
        ∗ owns (c : Thread nD τ) arg5 fullShare b ∗ (∃ d, owns (c : Thread nD τ) arg6 fullShare d)
        ∗ owns (c : Thread nD τ) arg7 fullShare s ∗ owns (c : Thread nD τ) arg8 fullShare n
        ∗ (iprop(owns (c : Thread nD τ) arg1 fullShare x0 ∗ owns (c : Thread nD τ) arg2 fullShare y
            ∗ owns (c : Thread nD τ) arg3 fullShare a ∗ owns (c : Thread nD τ) arg4 fullShare g
            ∗ owns (c : Thread nD τ) arg5 fullShare b ∗ owns (c : Thread nD τ) arg6 fullShare (bwdOut x0 y a g b k1_pay2 seg0)
            ∗ owns (c : Thread nD τ) arg7 fullShare (bwdCarry x0 y k1_pay2 seg0)
            ∗ owns (c : Thread nD τ) arg8 fullShare (bwdSeg x0)) -∗ K ⟨⟩))
      ⊢ wp frame (wpE (defs₀ (F := F)) Variants.none c none) E
          (cc1__bwd_kernel i arg1 harg1 arg2 harg2 arg3 harg3 arg4 harg4 arg5 harg5 arg6 harg6 arg7 harg7 arg8 harg8) K := by
  simp only [cc1__bwd_kernel_eq_skeleton]
  unfold cc1__bwd_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg7.eq_unread hf6
  obtain rfl := harg8.eq_unread hf7
  have e0 := (View.readAt_full (Val := Elt F) arg1.view (harg1.unread x0) (off := ![0, 0, 0]) inb_S1x1x1280_S1x1x1280_0_0_0).trans hf0
  have e1 := View.readAt_unit (Val := Elt F) arg2.view (harg2.unread y) inb_S1x128x1280_S1x64x1280_0_64_0 rfl inb_S1x128x1280_S1x64x1280_0_64_0
  rw [hf1] at e1
  have e1' := View.readAt_unit (Val := Elt F) arg2.view (harg2.unread y) inb_S1x128x1280_S1x64x1280_0_0_0 rfl inb_S1x128x1280_S1x64x1280_0_0_0
  rw [hf1] at e1'
  have e2 := View.readAt_unit (Val := Elt F) arg3.view (harg3.unread a) inb_S64x8_S64x1_0_0 rfl inb_S64x8_S64x1_0_0
  rw [hf2] at e2
  have e2' := View.readAt_unit (Val := Elt F) arg3.view (harg3.unread a) inb_S64x8_S64x1_0_1 rfl inb_S64x8_S64x1_0_1
  rw [hf2] at e2'
  have e3 := (View.readAt_full (Val := Elt F) arg4.view (harg4.unread g) (off := ![0, 0]) inb_S64x1_S64x1_0_0).trans hf3
  have e4 := (View.readAt_full (Val := Elt F) arg5.view (harg5.unread b) (off := ![0, 0]) inb_S64x1_S64x1_0_0).trans hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_full (s := S1280x128) _ _ _ _ _).trans ?_
    sl_unfold_words
    rw [readCov_col]
    rfl
  isplitl [H6]
  · iexists _; isplitr; swap; · iexact H6
    ipureintro
    refine (View.read_writes_cons_put _ _ _ _ _ rfl).trans ?_
    sl_unfold_words
    rw [View.read_writes_full (s := S64x8), readCov_col]
    rfl
  · iexists _; isplitr; swap; · iexact H7
    ipureintro
    refine (View.read_writes_full (s := S1) _ _ _ _ _).trans ?_
    sl_unfold_words
    rfl

end Cert.KernelIdeal.Own

end
-- ==== Proof.KI.Region0.lean ====
/- The first region: what each step leaves, what is carried between steps, and the body proved against it. -/
module

public import proofs.«01_k».proof.Proof.KI.Run0
public import Idealize.ShloMosaic.Lib.Pipeline.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

/-- A buffer of the core held whole, at some contents. -/
def anyBuf (c : Dev nD) (b : Ref sig .tc) : sProp 𝕄 :=
  iprop(∃ f : Buf (Elt F) ((c : Thread nD τ).loc b), ((c : Thread nD τ).loc b) ↦{fullShare} f)

/-- Contents of every buffer of every core, as a region finds them. -/
abbrev Entry (F : FTy → Type) : Type := (c : Dev nD) → (b : Ref sig .tc) → Buf (Elt F) ((c : Thread nD τ).loc b)

/-! ## The scoped buffers the first region's windows do not stage -/

/-- The other region's staging buffers and scratch: they ride through unread. -/
def others0 (c : Dev nD) : sProp 𝕄 :=
  iprop(anyBuf c cc1_stg0_0 ∗ anyBuf c cc1_stg0_1 ∗ anyBuf c cc1_stg1_0 ∗ anyBuf c cc1_stg1_1 ∗ anyBuf c cc1_stg2_0 ∗ anyBuf c cc1_stg3_0 ∗ anyBuf c cc1_stg4_0 ∗ anyBuf c cc1_stg5_0 ∗ anyBuf c cc1_stg5_1 ∗ anyBuf c cc1_scratch0 ∗ anyBuf c cc1_scratch1)

/-- The two carried buffers taken out of the scoped ones. -/
theorem rest0_split (c : Dev nD) :
    (Pipeline.scopedRest (τ := τ) (Ix := Unit) (Name := ℕ) (U := UR sig nD τ) (Lvl := ℕ) (Val := Elt F) spec0 c : sProp 𝕄)
      ⊢ iprop((∃ d, owns (c : Thread nD τ) (Memref.whole cc0_scratch0) fullShare d)
        ∗ (∃ d, owns (c : Thread nD τ) (Memref.whole cc0_scratch1) fullShare d) ∗ others0 c) := by
  rw [scopedRest0_eq]
  unfold others0 anyBuf
  simp only [owns_whole]
  iintro ⟨H0, H1, H2, H3, H4, H5, H6, H7, H8, H9, H10, H11, H12⟩
  isplitl [H0]; · iexact H0
  isplitl [H11]; · iexact H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H12

/-- The two carried buffers put back among the scoped ones. -/
theorem rest0_join (c : Dev nD) :
    iprop((∃ d, owns (c : Thread nD τ) (Memref.whole cc0_scratch0) fullShare d)
        ∗ (∃ d, owns (c : Thread nD τ) (Memref.whole cc0_scratch1) fullShare d) ∗ others0 c)
      ⊢ (Pipeline.scopedRest (τ := τ) (Ix := Unit) (Name := ℕ) (U := UR sig nD τ) (Lvl := ℕ) (Val := Elt F) spec0 c : sProp 𝕄) := by
  rw [scopedRest0_eq]
  unfold others0 anyBuf
  simp only [owns_whole]
  iintro ⟨H0, H11, H1, H2, H3, H4, H5, H6, H7, H8, H9, H10, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-! ## The blocks and the carried values -/

/-- The part of window `w`'s array that step `t` works on. -/
def iblk0 (V : Entry F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The segment ids of step `t`. -/
abbrev in0_0 (V : Entry F) (c : Dev nD) (t : Fin cfg0.N) : Vec F S1x1x1280 .i32 := iblk0 V c 0 t
/-- The rows of the input of step `t`. -/
abbrev in0_1 (V : Entry F) (c : Dev nD) (t : Fin cfg0.N) : Vec F S1280x128 .f32 := iblk0 V c 1 t
/-- The weights, the same at every step. -/
abbrev in0_2 (V : Entry F) (c : Dev nD) (t : Fin cfg0.N) : Vec F S128x64 .f32 := iblk0 V c 2 t

/-- What is carried before step `n`: the sums so far, the running maxima of the run that reaches into the step, and its id. -/
def state0 (V : Entry F) (c : Dev nD) : (n : ℕ) → n ≤ cfg0.N → Vec F S64x8 .f32 × Vec F S64x8 .f32 × Vec F S1 .i32
  | 0, _ => (k0_pay4, k0_pay3, seg0)
  | n + 1, h =>
    let t : Fin cfg0.N := ⟨n, h⟩
    let p := state0 V c n (Nat.le_of_succ_le h)
    (fwdSums (in0_1 V c t) (in0_2 V c t) p.1, fwdCarry (in0_0 V c t) (in0_1 V c t) (in0_2 V c t) p.2.1 p.2.2, fwdSeg (in0_0 V c t))

/-- The block step `t` writes. -/
def out0 (V : Entry F) (c : Dev nD) (t : Fin cfg0.N) : Vec F S1x128x1280 .f32 :=
  fwdOut (in0_0 V c t) (in0_1 V c t) (in0_2 V c t) (state0 V c t.val (Nat.le_of_lt t.isLt)).2.1
    (state0 V c t.val (Nat.le_of_lt t.isLt)).2.2

/-- What holds between steps: before the first, the scoped buffers at anything; later, the carried buffers at the carried values. -/
def inv0 (V : Entry F) (c : Dev nD) : (n : ℕ) → n ≤ cfg0.N → sProp 𝕄
  | 0, _ => iprop(Pipeline.scopedRest (τ := τ) (Ix := Unit) (Name := ℕ) (U := UR sig nD τ) (Lvl := ℕ) (Val := Elt F) spec0 c ∗ ∃ r, prngReg c r)
  | n + 1, h => iprop(owns (c : Thread nD τ) (Memref.whole cc0_scratch0) fullShare (state0 V c (n + 1) h).2.1
      ∗ owns (c : Thread nD τ) (Memref.whole cc0_scratch1) fullShare (state0 V c (n + 1) h).2.2 ∗ others0 c ∗ ∃ r, prngReg c r)

/-- What holds before the first step. -/
theorem inv0_zero (V : Entry F) (c : Dev nD) (n : ℕ) (h : n ≤ cfg0.N) (hz : n = 0) :
    inv0 V c n h = iprop(Pipeline.scopedRest (τ := τ) (Ix := Unit) (Name := ℕ) (U := UR sig nD τ) (Lvl := ℕ) (Val := Elt F) spec0 c ∗ ∃ r, prngReg c r) := by
  subst hz; rfl
/-- What holds before a later step. -/
theorem inv0_pos (V : Entry F) (c : Dev nD) (n : ℕ) (h : n ≤ cfg0.N) (hz : n ≠ 0) :
    inv0 V c n h = iprop(owns (c : Thread nD τ) (Memref.whole cc0_scratch0) fullShare (state0 V c n h).2.1
      ∗ owns (c : Thread nD τ) (Memref.whole cc0_scratch1) fullShare (state0 V c n h).2.2 ∗ others0 c ∗ ∃ r, prngReg c r) := by
  obtain ⟨n', rfl⟩ := Nat.exists_eq_succ_of_ne_zero hz; rfl
/-- What is carried before the first step. -/
theorem state0_zero (V : Entry F) (c : Dev nD) (n : ℕ) (h : n ≤ cfg0.N) (hz : n = 0) :
    state0 V c n h = (k0_pay4, k0_pay3, seg0) := by
  subst hz; rfl
/-- What a step carries on. -/
theorem state0_succ (V : Entry F) (c : Dev nD) (t : Fin cfg0.N) :
    state0 V c (t.val + 1) t.isLt = (fwdSums (in0_1 V c t) (in0_2 V c t) (state0 V c t.val (Nat.le_of_lt t.isLt)).1,
      fwdCarry (in0_0 V c t) (in0_1 V c t) (in0_2 V c t) (state0 V c t.val (Nat.le_of_lt t.isLt)).2.1
        (state0 V c t.val (Nat.le_of_lt t.isLt)).2.2, fwdSeg (in0_0 V c t)) := rfl

/-- The region's data: its arrays as found, and what each step leaves. -/
def dat0 (V : Entry F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
    | ⟨4, _⟩ => (state0 V c (t.val + 1) t.isLt).1
    | ⟨_ + 5, h⟩ => absurd h (Nat.not_lt.2 (Nat.le_add_left _ _))
  Φ t := inv0 V c t.val (Nat.le_of_lt_succ t.isLt)
  q _ := fullShare
  owed _ := 0

/-- The region's arrays are as found. -/
theorem dat0_A (V : Entry F) (c : Dev nD) (w : Fin cfg0.W) : (dat0 V c).A w = V c (Pipeline.arrRef spec0 w) := by
  dsimp only [dat0]
/-- What a step leaves in window 0. -/
theorem after0_0 (V : Entry F) (c : Dev nD) (t : Fin cfg0.N) : (dat0 V c).after 0 t = iblk0 V c 0 t := by dsimp only [dat0]
/-- What a step leaves in window 1. -/
theorem after0_1 (V : Entry F) (c : Dev nD) (t : Fin cfg0.N) : (dat0 V c).after 1 t = iblk0 V c 1 t := by dsimp only [dat0]
/-- What a step leaves in window 2. -/
theorem after0_2 (V : Entry F) (c : Dev nD) (t : Fin cfg0.N) : (dat0 V c).after 2 t = iblk0 V c 2 t := by dsimp only [dat0]
/-- What a step leaves in window 3. -/
theorem after0_3 (V : Entry F) (c : Dev nD) (t : Fin cfg0.N) : (dat0 V c).after 3 t = out0 V c t := by dsimp only [dat0]
/-- What a step leaves in window 4. -/
theorem after0_4 (V : Entry F) (c : Dev nD) (t : Fin cfg0.N) : (dat0 V c).after 4 t = (state0 V c (t.val + 1) t.isLt).1 := by dsimp only [dat0]
/-- What holds before step `t`. -/
theorem inv0_castSucc (V : Entry F) (c : Dev nD) (t : Fin cfg0.N) :
    (dat0 V c).Φ t.castSucc = inv0 V c t.val (Nat.le_of_lt t.isLt) := by
  dsimp only [dat0]; exact Pipeline.Dat.Φ_castSucc (inv0 V c) t

/-- What a step finds in window 0. -/
theorem before0_0 (V : Entry F) (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [dat0_A]; try rfl) t d).trans
    (by unfold Dat.fetched Dat.blockOf iblk0; rw [dat0_A]; try rfl)
/-- What a step finds in window 1. -/
theorem before0_1 (V : Entry F) (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [dat0_A]; try rfl) t d).trans
    (by unfold Dat.fetched Dat.blockOf iblk0; rw [dat0_A]; try rfl)
/-- What a step finds in window 2. -/
theorem before0_2 (V : Entry F) (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [dat0_A]; try rfl) t d).trans
    (by unfold Dat.fetched Dat.blockOf iblk0; rw [dat0_A]; try rfl)
/-- What a step finds in window 4. -/
theorem before0_4 (V : Entry F) (c : Dev nD) (t : Fin cfg0.N) (h0 : t.val ≠ 0) (d) :
    (dat0 V c).before 4 t d = (state0 V c t.val (Nat.le_of_lt t.isLt)).1 := by
  have hN : t.val < 250 := lt_of_lt_of_eq t.isLt (show cfg0.N = 250 from N_0)
  rw [Dat.before_out_kept _ 4 rfl t (by omega)
    (Bool.eq_false_iff.mpr fun h => by have := (flush0_4 _).mp h; dsimp only at this; omega) (fun _ => rfl) (fun _ _ => rfl), after0_4]
  have e : t.val - 1 + 1 = t.val := by omega
  congr 1
  simp only [e]

/-- The first step is the one at point 0. -/
theorem first0_iff : ∀ t : Fin cfg0.N, first0 (grid0.coords t) ↔ t.val = 0 :=
  (fun t => by
    have ht : t.val < 250 := Nat.lt_of_lt_of_eq t.isLt N_0
    have e0 : (grid0.coords t 0).val = t.val / 1 % 250 := Pipeline.Grid.coords_val t 0 (by decide) rfl
    simp only [first0, e0]
    word_cmp
   : ∀ t : Fin grid0.N, first0 (grid0.coords t) ↔ t.val = 0)

/-! ## A step -/

/-- What a step's body is called with, -/
def pre0 (V : Entry F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def post0 (V : Entry F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1600000 in
/-- The body's step, at any point. -/
theorem step0 (V : Entry F) (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).owesAt () t.succ = (dat0 V c).owesAt () t.castSucc from rfl]
  rw [after0_0, after0_1, after0_2, after0_3, after0_4]
  rw [show (dat0 V c).Φ t.succ = inv0 V c (t.val + 1) t.isLt from rfl, inv0_castSucc, inv0_pos V c (t.val + 1) t.isLt (by omega),
    state0_succ]
  unfold out0
  by_cases hz : t.val = 0
  · rw [inv0_zero V c _ _ hz]
    rw [state0_zero V c t.val _ hz]
    iintro ⟨⟨Hr, Hg⟩, Ho, ⟨%d0, H0⟩, ⟨%d1, H1⟩, ⟨%d2, H2⟩, ⟨%d3, H3⟩, ⟨%d4, H4⟩⟩
    ihave Hr' := (rest0_split c) $$ Hr
    icases Hr' with ⟨⟨%s, Hs⟩, ⟨%n, Hn⟩, Hr⟩
    iapply (run0_first c (grid0.coords t) _ _ _ _ _ _ _ _ _ _ _ _ _ _ ((first0_iff t).mpr hz) (in0_0 V c t) (in0_1 V c t) (in0_2 V c t) _ _ _ Set.univ _)
    isplitl [H0]; · iexact H0
    isplitl [H1]; · iexact H1
    isplitl [H2]; · iexact H2
    isplitl [H3]; · iexists _; iexact H3
    isplitl [H4]; · iexact H4
    isplitl [Hs]; · iexact Hs
    isplitl [Hn]; · iexact Hn
    iintro ⟨H0, H1, H2, H3, H4, Hs, Hn⟩
    isplitl [Hs Hn Hr Hg]
    · isplitl [Hs]; · iexact Hs
      isplitl [Hn]; · iexact Hn
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [inv0_pos V c _ _ hz]
    simp only [before0_4 V c t hz]
    iintro ⟨⟨Hs, Hn, Hr, Hg⟩, Ho, ⟨%d0, H0⟩, ⟨%d1, H1⟩, ⟨%d2, H2⟩, ⟨%d3, H3⟩, ⟨%d4, H4⟩⟩
    iapply (run0_later c (grid0.coords t) _ _ _ _ _ _ _ _ _ _ _ _ _ _ (fun h => hz ((first0_iff t).mp h)) (in0_0 V c t) (in0_1 V c t) (in0_2 V c t) _ _ _ Set.univ _)
    isplitl [H0]; · iexact H0
    isplitl [H1]; · iexact H1
    isplitl [H2]; · iexact H2
    isplitl [H3]; · iexists _; iexact H3
    isplitl [H4]; · iexact H4
    isplitl [Hs]; · iexact Hs
    isplitl [Hn]; · iexact Hn
    iintro ⟨H0, H1, H2, H3, H4, Hs, Hn⟩
    isplitl [Hs Hn Hr Hg]
    · isplitl [Hs]; · iexact Hs
      isplitl [Hn]; · iexact Hn
      isplitl [Hr]; · iexact Hr
      iexact Hg
    isplitl [Ho]; · iexact Ho
    isplitl [H0]; · iexact H0
    isplitl [H1]; · iexact H1
    isplitl [H2]; · iexact H2
    isplitl [H3]; · iexact H3
    iexact H4

/-- The body table's row at point `t` is the body there. -/
theorem row0 (t : Fin cfg0.N) : defs₀ (F := F) .tc cfg0.body (cfg0.bodyArgs t (cfg0.slots t)) = bodyAt0 t := by
  unfold defs₀; rw [Defs.onTc_tc]

/-- The region's obligation, at every point. -/
theorem obligation0 (V : Entry F) (c : Dev nD) : BodyObligation (dat0 V c) (defs₀ (F := F)) Variants.none () Set.univ := fun t => by
  rw [bigSep_W0, bigSep_W0, row0]
  exact triple_restated (step0 V c t) rfl .rfl fun _ => .rfl

/-- What the launch hands over is the invariant before the first step. -/
theorem enter0 (V : Entry F) (c : Dev nD) :
    (iprop(Pipeline.scopedRest (τ := τ) (Ix := Unit) (Name := ℕ) (U := UR sig nD τ) (Lvl := ℕ) (Val := Elt F) spec0 c ∗ ∃ r, prngReg c r) : sProp 𝕄)
      ⊢ (dat0 V c).Φ 0 := by
  rw [show (dat0 V c).Φ 0 = inv0 V c 0 (Nat.zero_le _) from rfl, inv0_zero V c 0 _ rfl]

/-- After the last step the carried values are forgotten. -/
theorem leave0 (V : Entry F) (c : Dev nD) :
    (dat0 V c).Φ (Fin.last cfg0.N)
      ⊢ iprop(Pipeline.scopedRest (τ := τ) (Ix := Unit) (Name := ℕ) (U := UR sig nD τ) (Lvl := ℕ) (Val := Elt F) spec0 c ∗ ∃ r, prngReg c r) := by
  rw [show (dat0 V c).Φ (Fin.last cfg0.N) = inv0 V c cfg0.N (Nat.le_refl _) from rfl,
    inv0_pos V c _ _ (by have : cfg0.N = 250 := N_0; omega)]
  iintro ⟨Hs, Hn, Hr, Hg⟩
  isplitl [Hs Hn Hr]
  · iapply (rest0_join c)
    isplitl [Hs]; · iexists _; iexact Hs
    isplitl [Hn]; · iexists _; iexact Hn
    iexact Hr
  iexact Hg

end Cert.KernelIdeal.Own

end
-- ==== Proof.KI.Region1.lean ====
/- The second region: what each step leaves, what is carried between steps, and the body proved against it. -/
module

public import proofs.«01_k».proof.Proof.KI.Run1
public import proofs.«01_k».proof.Proof.KI.Region0

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

/-! ## The scoped buffers the second region's windows do not stage -/

/-- The other region's staging buffers and scratch: they ride through unread. -/
def others1 (c : Dev nD) : sProp 𝕄 :=
  iprop(anyBuf c cc0_stg0_0 ∗ anyBuf c cc0_stg0_1 ∗ anyBuf c cc0_stg1_0 ∗ anyBuf c cc0_stg1_1 ∗ anyBuf c cc0_stg2_0 ∗ anyBuf c cc0_stg3_0 ∗ anyBuf c cc0_stg3_1 ∗ anyBuf c cc0_stg4_0 ∗ anyBuf c cc0_scratch0 ∗ anyBuf c cc0_scratch1)

/-- The two carried buffers taken out of the scoped ones. -/
theorem rest1_split (c : Dev nD) :
    (Pipeline.scopedRest (τ := τ) (Ix := Unit) (Name := ℕ) (U := UR sig nD τ) (Lvl := ℕ) (Val := Elt F) spec1 c : sProp 𝕄)
      ⊢ iprop((∃ d, owns (c : Thread nD τ) (Memref.whole cc1_scratch0) fullShare d)
        ∗ (∃ d, owns (c : Thread nD τ) (Memref.whole cc1_scratch1) fullShare d) ∗ others1 c) := by
  rw [scopedRest1_eq]
  unfold others1 anyBuf
  simp only [owns_whole]
  iintro ⟨H0, H1, H2, H3, H4, H5, H6, H7, H8, H9, H10, H11⟩
  isplitl [H9]; · iexact H9
  isplitl [H11]; · iexact H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H10

/-- The two carried buffers put back among the scoped ones. -/
theorem rest1_join (c : Dev nD) :
    iprop((∃ d, owns (c : Thread nD τ) (Memref.whole cc1_scratch0) fullShare d)
        ∗ (∃ d, owns (c : Thread nD τ) (Memref.whole cc1_scratch1) fullShare d) ∗ others1 c)
      ⊢ (Pipeline.scopedRest (τ := τ) (Ix := Unit) (Name := ℕ) (U := UR sig nD τ) (Lvl := ℕ) (Val := Elt F) spec1 c : sProp 𝕄) := by
  rw [scopedRest1_eq]
  unfold others1 anyBuf
  simp only [owns_whole]
  iintro ⟨H9, H11, H0, H1, H2, H3, H4, H5, H6, H7, H8, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The blocks and the carried values -/

/-- The part of window `w`'s array that step `t` works on. -/
def iblk1 (V : Entry F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The segment ids of step `t`. -/
abbrev in1_0 (V : Entry F) (c : Dev nD) (t : Fin cfg1.N) : Vec F S1x1x1280 .i32 := iblk1 V c 0 t
/-- The first region's result for the rows of step `t`. -/
abbrev in1_1 (V : Entry F) (c : Dev nD) (t : Fin cfg1.N) : Vec F S1x128x1280 .f32 := iblk1 V c 1 t
/-- The sums, the same at every step. -/
abbrev in1_2 (V : Entry F) (c : Dev nD) (t : Fin cfg1.N) : Vec F S64x8 .f32 := iblk1 V c 2 t
/-- The scale vector. -/
abbrev in1_3 (V : Entry F) (c : Dev nD) (t : Fin cfg1.N) : Vec F S64x1 .f32 := iblk1 V c 3 t
/-- The shift vector. -/
abbrev in1_4 (V : Entry F) (c : Dev nD) (t : Fin cfg1.N) : Vec F S64x1 .f32 := iblk1 V c 4 t

/-- What is carried before step `n`: the maxima of the run that reaches into the step from behind, and its id. -/
def state1 (V : Entry F) (c : Dev nD) : (n : ℕ) → n ≤ cfg1.N → Vec F S64x8 .f32 × Vec F S1 .i32
  | 0, _ => (k1_pay2, seg0)
  | n + 1, h =>
    let t : Fin cfg1.N := ⟨n, h⟩
    let p := state1 V c n (Nat.le_of_succ_le h)
    (bwdCarry (in1_0 V c t) (in1_1 V c t) p.1 p.2, bwdSeg (in1_0 V c t))

/-- The block step `t` writes. -/
def out1 (V : Entry F) (c : Dev nD) (t : Fin cfg1.N) : Vec F S1280x128 .f32 :=
  bwdOut (in1_0 V c t) (in1_1 V c t) (in1_2 V c t) (in1_3 V c t) (in1_4 V c t) (state1 V c t.val (Nat.le_of_lt t.isLt)).1
    (state1 V c t.val (Nat.le_of_lt t.isLt)).2

/-- What holds between steps: before the first, the scoped buffers at anything; later, the carried buffers at the carried values. -/
def inv1 (V : Entry F) (c : Dev nD) : (n : ℕ) → n ≤ cfg1.N → sProp 𝕄
  | 0, _ => iprop(Pipeline.scopedRest (τ := τ) (Ix := Unit) (Name := ℕ) (U := UR sig nD τ) (Lvl := ℕ) (Val := Elt F) spec1 c ∗ ∃ r, prngReg c r)
  | n + 1, h => iprop(owns (c : Thread nD τ) (Memref.whole cc1_scratch0) fullShare (state1 V c (n + 1) h).1
      ∗ owns (c : Thread nD τ) (Memref.whole cc1_scratch1) fullShare (state1 V c (n + 1) h).2 ∗ others1 c ∗ ∃ r, prngReg c r)

/-- What holds before the first step. -/
theorem inv1_zero (V : Entry F) (c : Dev nD) (n : ℕ) (h : n ≤ cfg1.N) (hz : n = 0) :
    inv1 V c n h = iprop(Pipeline.scopedRest (τ := τ) (Ix := Unit) (Name := ℕ) (U := UR sig nD τ) (Lvl := ℕ) (Val := Elt F) spec1 c ∗ ∃ r, prngReg c r) := by
  subst hz; rfl
/-- What holds before a later step. -/
theorem inv1_pos (V : Entry F) (c : Dev nD) (n : ℕ) (h : n ≤ cfg1.N) (hz : n ≠ 0) :
    inv1 V c n h = iprop(owns (c : Thread nD τ) (Memref.whole cc1_scratch0) fullShare (state1 V c n h).1
      ∗ owns (c : Thread nD τ) (Memref.whole cc1_scratch1) fullShare (state1 V c n h).2 ∗ others1 c ∗ ∃ r, prngReg c r) := by
  obtain ⟨n', rfl⟩ := Nat.exists_eq_succ_of_ne_zero hz; rfl
/-- What is carried before the first step. -/
theorem state1_zero (V : Entry F) (c : Dev nD) (n : ℕ) (h : n ≤ cfg1.N) (hz : n = 0) :
    state1 V c n h = (k1_pay2, seg0) := by
  subst hz; rfl
/-- What a step carries on. -/
theorem state1_succ (V : Entry F) (c : Dev nD) (t : Fin cfg1.N) :
    state1 V c (t.val + 1) t.isLt = (bwdCarry (in1_0 V c t) (in1_1 V c t) (state1 V c t.val (Nat.le_of_lt t.isLt)).1
        (state1 V c t.val (Nat.le_of_lt t.isLt)).2, bwdSeg (in1_0 V c t)) := rfl

/-- The region's data: its arrays as found, and what each step leaves. -/
def dat1 (V : Entry F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
    | ⟨_ + 6, h⟩ => absurd h (Nat.not_lt.2 (Nat.le_add_left _ _))
  Φ t := inv1 V c t.val (Nat.le_of_lt_succ t.isLt)
  q _ := fullShare
  owed _ := 0

/-- The region's arrays are as found. -/
theorem dat1_A (V : Entry F) (c : Dev nD) (w : Fin cfg1.W) : (dat1 V c).A w = V c (Pipeline.arrRef spec1 w) := by
  dsimp only [dat1]
/-- What a step leaves in window 0. -/
theorem after1_0 (V : Entry F) (c : Dev nD) (t : Fin cfg1.N) : (dat1 V c).after 0 t = iblk1 V c 0 t := by dsimp only [dat1]
/-- What a step leaves in window 1. -/
theorem after1_1 (V : Entry F) (c : Dev nD) (t : Fin cfg1.N) : (dat1 V c).after 1 t = iblk1 V c 1 t := by dsimp only [dat1]
/-- What a step leaves in window 2. -/
theorem after1_2 (V : Entry F) (c : Dev nD) (t : Fin cfg1.N) : (dat1 V c).after 2 t = iblk1 V c 2 t := by dsimp only [dat1]
/-- What a step leaves in window 3. -/
theorem after1_3 (V : Entry F) (c : Dev nD) (t : Fin cfg1.N) : (dat1 V c).after 3 t = iblk1 V c 3 t := by dsimp only [dat1]
/-- What a step leaves in window 4. -/
theorem after1_4 (V : Entry F) (c : Dev nD) (t : Fin cfg1.N) : (dat1 V c).after 4 t = iblk1 V c 4 t := by dsimp only [dat1]
/-- What a step leaves in window 5. -/
theorem after1_5 (V : Entry F) (c : Dev nD) (t : Fin cfg1.N) : (dat1 V c).after 5 t = out1 V c t := by dsimp only [dat1]
/-- What holds before step `t`. -/
theorem inv1_castSucc (V : Entry F) (c : Dev nD) (t : Fin cfg1.N) :
    (dat1 V c).Φ t.castSucc = inv1 V c t.val (Nat.le_of_lt t.isLt) := by
  dsimp only [dat1]; exact Pipeline.Dat.Φ_castSucc (inv1 V c) t

/-- What a step finds in window 0. -/
theorem before1_0 (V : Entry F) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [dat1_A]; try rfl) t d).trans
    (by unfold Dat.fetched Dat.blockOf iblk1; rw [dat1_A]; try rfl)
/-- What a step finds in window 1. -/
theorem before1_1 (V : Entry F) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [dat1_A]; try rfl) t d).trans
    (by unfold Dat.fetched Dat.blockOf iblk1; rw [dat1_A]; try rfl)
/-- What a step finds in window 2. -/
theorem before1_2 (V : Entry F) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [dat1_A]; try rfl) t d).trans
    (by unfold Dat.fetched Dat.blockOf iblk1; rw [dat1_A]; try rfl)
/-- What a step finds in window 3. -/
theorem before1_3 (V : Entry F) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [dat1_A]; try rfl) t d).trans
    (by unfold Dat.fetched Dat.blockOf iblk1; rw [dat1_A]; try rfl)
/-- What a step finds in window 4. -/
theorem before1_4 (V : Entry F) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [dat1_A]; try rfl) t d).trans
    (by unfold Dat.fetched Dat.blockOf iblk1; rw [dat1_A]; try rfl)

/-- The first step is the one at point 0. -/
theorem first1_iff : ∀ t : Fin cfg1.N, first1 (grid1.coords t) ↔ t.val = 0 :=
  (fun t => by
    have ht : t.val < 250 := Nat.lt_of_lt_of_eq t.isLt N_1
    have e0 : (grid1.coords t 0).val = t.val / 1 % 250 := Pipeline.Grid.coords_val t 0 (by decide) rfl
    simp only [first1, e0]
    word_cmp
   : ∀ t : Fin grid1.N, first1 (grid1.coords t) ↔ t.val = 0)

/-! ## A step -/

/-- What a step's body is called with, -/
def pre1 (V : Entry F) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def post1 (V : Entry F) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body's step, at any point. -/
theorem step1 (V : Entry F) (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (dat1 V c).owesAt () t.succ = (dat1 V c).owesAt () t.castSucc from rfl]
  rw [after1_0, after1_1, after1_2, after1_3, after1_4, after1_5]
  rw [show (dat1 V c).Φ t.succ = inv1 V c (t.val + 1) t.isLt from rfl, inv1_castSucc, inv1_pos V c (t.val + 1) t.isLt (by omega),
    state1_succ]
  unfold out1
  by_cases hz : t.val = 0
  · rw [inv1_zero V c _ _ hz]
    rw [state1_zero V c t.val _ hz]
    iintro ⟨⟨Hr, Hg⟩, Ho, ⟨%d0, H0⟩, ⟨%d1, H1⟩, ⟨%d2, H2⟩, ⟨%d3, H3⟩, ⟨%d4, H4⟩, ⟨%d5, H5⟩⟩
    ihave Hr' := (rest1_split c) $$ Hr
    icases Hr' with ⟨⟨%s, Hs⟩, ⟨%n, Hn⟩, Hr⟩
    iapply (run1_first c (grid1.coords t) _ _ _ _ _ _ _ _ _ _ _ _ _ _ _ _ ((first1_iff t).mpr hz) (in1_0 V c t) (in1_1 V c t) (in1_2 V c t) (in1_3 V c t) (in1_4 V c t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    isplitl [Hn]; · iexact Hn
    iintro ⟨H0, H1, H2, H3, H4, H5, Hs, Hn⟩
    isplitl [Hs Hn Hr Hg]
    · isplitl [Hs]; · iexact Hs
      isplitl [Hn]; · iexact Hn
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv1_pos V c _ _ hz]
    iintro ⟨⟨Hs, Hn, Hr, Hg⟩, Ho, ⟨%d0, H0⟩, ⟨%d1, H1⟩, ⟨%d2, H2⟩, ⟨%d3, H3⟩, ⟨%d4, H4⟩, ⟨%d5, H5⟩⟩
    iapply (run1_later c (grid1.coords t) _ _ _ _ _ _ _ _ _ _ _ _ _ _ _ _ (fun h => hz ((first1_iff t).mp h)) (in1_0 V c t) (in1_1 V c t) (in1_2 V c t) (in1_3 V c t) (in1_4 V c t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [Hs]; · iexact Hs
    isplitl [Hn]; · iexact Hn
    iintro ⟨H0, H1, H2, H3, H4, H5, Hs, Hn⟩
    isplitl [Hs Hn Hr Hg]
    · isplitl [Hs]; · iexact Hs
      isplitl [Hn]; · iexact Hn
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body there. -/
theorem row1 (t : Fin cfg1.N) : defs₀ (F := F) .tc cfg1.body (cfg1.bodyArgs t (cfg1.slots t)) = bodyAt1 t := by
  unfold defs₀; rw [Defs.onTc_tc]

/-- The region's obligation, at every point. -/
theorem obligation1 (V : Entry F) (c : Dev nD) : BodyObligation (dat1 V c) (defs₀ (F := F)) Variants.none () Set.univ := fun t => by
  rw [bigSep_W1, bigSep_W1, row1]
  exact triple_restated (step1 V c t) rfl .rfl fun _ => .rfl

/-- What the launch hands over is the invariant before the first step. -/
theorem enter1 (V : Entry F) (c : Dev nD) :
    (iprop(Pipeline.scopedRest (τ := τ) (Ix := Unit) (Name := ℕ) (U := UR sig nD τ) (Lvl := ℕ) (Val := Elt F) spec1 c ∗ ∃ r, prngReg c r) : sProp 𝕄)
      ⊢ (dat1 V c).Φ 0 := by
  rw [show (dat1 V c).Φ 0 = inv1 V c 0 (Nat.zero_le _) from rfl, inv1_zero V c 0 _ rfl]

/-- After the last step the carried values are forgotten. -/
theorem leave1 (V : Entry F) (c : Dev nD) :
    (dat1 V c).Φ (Fin.last cfg1.N)
      ⊢ iprop(Pipeline.scopedRest (τ := τ) (Ix := Unit) (Name := ℕ) (U := UR sig nD τ) (Lvl := ℕ) (Val := Elt F) spec1 c ∗ ∃ r, prngReg c r) := by
  rw [show (dat1 V c).Φ (Fin.last cfg1.N) = inv1 V c cfg1.N (Nat.le_refl _) from rfl,
    inv1_pos V c _ _ (by have : cfg1.N = 250 := N_1; omega)]
  iintro ⟨Hs, Hn, Hr, Hg⟩
  isplitl [Hs Hn Hr]
  · iapply (rest1_join c)
    isplitl [Hs]; · iexists _; iexact Hs
    isplitl [Hn]; · iexists _; iexact Hn
    iexact Hr
  iexact Hg

end Cert.KernelIdeal.Own

end
-- ==== Proof.KI.Run.lean ====
/- The whole program, run: both regions chained, every final state read off the regions' data. -/
module

public import proofs.«01_k».proof.Proof.KI.Region1
public import proofs.«01_k».proof.Proof.Gen.KernelIdeal.Regions
public import Idealize.ShloMosaic.Lib.Pipeline.RegionArraysS

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- No cell carries a level: no wait of this program crosses cores. -/
abbrev noCells : GSem nD τ sig → Finset Unit := fun _ => ∅
/-- No cell carries a level, so all levels are zero. -/
abbrev noLevels : GSem nD τ sig → Unit → ℕ := fun _ _ => 0

/-- What the first region finds. -/
def entry0 : Entry F := fun c b => V1 m c (Proc.devRef .tc b)

/-- The buffers after the first region. -/
def mid (c : Dev nD) : Valuation τ sig (Elt F) := Pipeline.afterRegion (dat0 (entry0 m) c) (V1 m c)

/-- What the second region finds. -/
def entry1 : Entry F := fun c b => mid m c (Proc.devRef .tc b)

/-- The buffers at the end. -/
def fin (c : Dev nD) : Valuation τ sig (Elt F) := Pipeline.afterRegion (dat1 (entry1 m) c) (mid m c)

/-- The same at the core's references. -/
def exit1 : Entry F := fun c b => fin m c (Proc.devRef .tc b)

/-- What the program's result array holds at the end. -/
def result (c : Dev nD) : Buf (Elt F) ((c : Thread nD τ).loc main_v0) := (dat1 (entry1 m) c).arrAt 5 cfg1.N

/-- What the first region leaves in its arrays. -/
theorem left0 (c : Dev nD) (w : Fin cfg0.W) : (dat0 (entry0 m) c).arrAt w cfg0.N = entry1 m c (Pipeline.arrRef spec0 w) :=
  (Pipeline.afterRegion_arr (dat0 (entry0 m) c) (V1 m c) launch0.win.arr_inj w).symm
/-- What the first region leaves alone. -/
theorem kept0 (c : Dev nD) (b : Ref sig .tc) (hb : b ∉ Finset.univ.image (Pipeline.arrRef spec0)) : entry1 m c b = entry0 m c b :=
  Pipeline.afterRegion_of_not_arr (dat0 (entry0 m) c) (V1 m c) fun w e => hb (Finset.mem_image.mpr ⟨w, Finset.mem_univ _, e.symm⟩)
/-- What the second region leaves in its arrays. -/
theorem left1 (c : Dev nD) (w : Fin cfg1.W) : (dat1 (entry1 m) c).arrAt w cfg1.N = exit1 m c (Pipeline.arrRef spec1 w) :=
  (Pipeline.afterRegion_arr (dat1 (entry1 m) c) (mid m c) launch1.win.arr_inj w).symm
/-- What the second region leaves alone. -/
theorem kept1 (c : Dev nD) (b : Ref sig .tc) (hb : b ∉ Finset.univ.image (Pipeline.arrRef spec1)) : exit1 m c b = entry1 m c b :=
  Pipeline.afterRegion_of_not_arr (dat1 (entry1 m) c) (mid m c) fun w e => hb (Finset.mem_image.mpr ⟨w, Finset.mem_univ _, e.symm⟩)

/-- A buffer no window of the first region writes is as the region found it. -/
theorem mid_keeps (c : Dev nD) (r : Ref sig .tc) (h : ∀ w, Pipeline.arrRef spec0 w = r → (cfg0.win w).isOut = false) :
    mid m c (Proc.devRef .tc r) = V1 m c (Proc.devRef .tc r) :=
  Pipeline.afterRegion_keeps (dat0 (entry0 m) c) (V1 m c) launch0.win.arr_inj (dat0_A (entry0 m) c) r h
/-- A buffer no window of the second region writes is as the region found it. -/
theorem fin_keeps (c : Dev nD) (r : Ref sig .tc) (h : ∀ w, Pipeline.arrRef spec1 w = r → (cfg1.win w).isOut = false) :
    fin m c (Proc.devRef .tc r) = mid m c (Proc.devRef .tc r) :=
  Pipeline.afterRegion_keeps (dat1 (entry1 m) c) (mid m c) launch1.win.arr_inj (dat1_A (entry1 m) c) r h
/-- The result array at the end is the second region's output. -/
theorem fin_result (c : Dev nD) : fin m c (Proc.devRef .tc main_v0) = result m c :=
  Pipeline.afterRegion_arr (dat1 (entry1 m) c) (mid m c) launch1.win.arr_inj 5
/-- An argument ends as launched: no host operation writes it (`h`), no window writes it (`h0`, `h1`). -/
theorem fin_arg (c : Dev nD) (r : Ref sig .tc) (h : r ∉ hostOps0_W)
    (h0 : ∀ w, Pipeline.arrRef spec0 w = r → (cfg0.win w).isOut = false)
    (h1 : ∀ w, Pipeline.arrRef spec1 w = r → (cfg1.win w).isOut = false) :
    fin m c (Proc.devRef .tc r) = m ((c : Thread nD τ).loc r) :=
  (fin_keeps m c r h1).trans ((mid_keeps m c r h0).trans (V1_of m c r h))

/-- Both regions' data. -/
def dats : (p : Fin 2) → (c : Dev nD) → Dat τ (Elt F) Unit ℕ (UR sig nD τ) ℕ (cfgs p) c
  | ⟨0, _⟩ => fun c => dat0 (entry0 m) c
  | ⟨1, _⟩ => fun c => dat1 (entry1 m) c
  | ⟨_ + 2, h⟩ => absurd h (Nat.not_lt.2 (Nat.le_add_left _ _))

/-- An unscoped reference is among the buffers held between items. -/
theorem mem_unscoped (r : Ref sig .tc) (h : ¬ (Proc.devRef .tc r : DevRef τ sig).isScoped) :
    (Proc.devRef .tc r : DevRef τ sig) ∈ Pipeline.ucRefs τ sig :=
  Finset.mem_filter.mpr ⟨StableHlo.devRef_mem_tcRefs r, h⟩

set_option backward.isDefEq.respectTransparency.types false in
/-- The first region as a segment. -/
def region0 : RegionSeg (pcfgs (F := F)) adm (dats m) () defs₀ Variants.none noCells noLevels 0 where
  win := launch0.win.to₀
  block_pos := launch0.block_pos
  stage_whole := launch0.stage_whole
  K := PEmpty
  osem k := k.elim
  ho := Pipeline.OwnSemFacts.none _
  hbody c := (obligation0 (entry0 m) c).loose
  hwaits := Pipeline.hwaits_of_owed_zero _ _ _ _ noCells noLevels 0 fun _ _ => rfl
  pre c := iprop(StableHlo.held (c : Thread nD τ) (Pipeline.ucRefs τ sig) (V1 m c)
    ∗ (∃ r, prngReg c r) ∗ ∃ W, owes (c : Thread nD τ) (0 : CellTallies nD τ sig Unit) W)
  post c := iprop(StableHlo.held (c : Thread nD τ) (Pipeline.ucRefs τ sig) (mid m c)
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (dats m) launch0.win launch0.arr_whole c
      ((dats m 0 c).share_full fun _ => rfl) (entry0 m c) (dat0_A (entry0 m) c)
    rw [show unscopedBufs c (entry0 m c) = StableHlo.held (c : Thread nD τ) (Pipeline.ucRefs τ sig) (V1 m c)
      from Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = (dat0 (entry0 m) c).Φ 0 from rfl]
    iintro ⟨Hp, -, Hr⟩
    iapply (enter0 (entry0 m) c)
    isplitl [Hr]; · iexact Hr
    iexact Hp
  hout c := by
    rw [Pipeline.ownSems0_none, show (dats m 0 c).Φ (Fin.last _) = (dat0 (entry0 m) c).Φ (Fin.last cfg0.N) from rfl]
    iintro H
    ihave H' := (leave0 (entry0 m) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m) ((dats m 0 c).share_full fun _ => rfl)
      (entry0 m c) (entry1 m c) ((dats m 0 c).arrAt · cfg0.N) (left0 m c) (kept0 m c)
    rw [show unscopedBufs c (entry1 m c) = StableHlo.held (c : Thread nD τ) (Pipeline.ucRefs τ sig) (mid m c)
      from Pipeline.unscopedBufs_held c (mid m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment. -/
def region1 : RegionSeg (pcfgs (F := F)) adm (dats m) () defs₀ Variants.none noCells noLevels 1 where
  win := launch1.win.to₀
  block_pos := launch1.block_pos
  stage_whole := launch1.stage_whole
  K := PEmpty
  osem k := k.elim
  ho := Pipeline.OwnSemFacts.none _
  hbody c := (obligation1 (entry1 m) c).loose
  hwaits := Pipeline.hwaits_of_owed_zero _ _ _ _ noCells noLevels 1 fun _ _ => rfl
  pre c := iprop(StableHlo.held (c : Thread nD τ) (Pipeline.ucRefs τ sig) (mid m c)
    ∗ (∃ r, prngReg c r) ∗ ∃ W, owes (c : Thread nD τ) (0 : CellTallies nD τ sig Unit) W)
  post c := iprop(StableHlo.held (c : Thread nD τ) (Pipeline.ucRefs τ sig) (fin m c)
    ∗ (∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (dats m) launch1.win launch1.arr_whole c
      ((dats m 1 c).share_full fun _ => rfl) (entry1 m c) (dat1_A (entry1 m) c)
    rw [show unscopedBufs c (entry1 m c) = StableHlo.held (c : Thread nD τ) (Pipeline.ucRefs τ sig) (mid m c)
      from Pipeline.unscopedBufs_held c (mid m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 1 c).Φ 0 = (dat1 (entry1 m) c).Φ 0 from rfl]
    iintro ⟨Hp, -, Hr⟩
    iapply (enter1 (entry1 m) c)
    isplitl [Hr]; · iexact Hr
    iexact Hp
  hout c := by
    rw [Pipeline.ownSems0_none, show (dats m 1 c).Φ (Fin.last _) = (dat1 (entry1 m) c).Φ (Fin.last cfg1.N) from rfl]
    iintro H
    ihave H' := (leave1 (entry1 m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m) ((dats m 1 c).share_full fun _ => rfl)
      (entry1 m c) (exit1 m c) ((dats m 1 c).arrAt · cfg1.N) (left1 m c) (kept1 m c)
    rw [show unscopedBufs c (exit1 m c) = StableHlo.held (c : Thread nD τ) (Pipeline.ucRefs τ sig) (fin m c)
      from Pipeline.unscopedBufs_held c (fin m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What rides beside the buffers between items: the generator register, and nothing owed. -/
abbrev rides (_ : Fin 3) (c : Dev nD) : sProp 𝕄 :=
  iprop((∃ r, prngReg c r) ∗ ∃ W, owes (c : Thread nD τ) (0 : CellTallies nD τ sig Unit) W)

/-- @main as segments. -/
abbrev segments (c : Dev nD) : List (Seg (pcfgs (F := F)) adm (dats m) () defs₀ Variants.none noCells noLevels) :=
  segs m Variants.none noCells noLevels rides () (dats m) (region0 m) (region1 m) c

variable (ρ : Dev nD → PrngReg)

set_option backward.isDefEq.respectTransparency.types false in
/-- Every weakly fair execution ends, with the result array at `result`, every argument as launched and every counter at zero. -/
theorem run : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (dats m) () cellOf_inj emb₁ defs₀ Variants.none noCells noLevels m ρ main
    (segments m)
    (fun c Q => by
      rewrite [main_chain c, Seg.run_eq_chain,
        show (segments m c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ rides 0 c))
    (Tₙ := fun c => StableHlo.held (c : Thread nD τ) (Pipeline.ucRefs τ sig) (fin m c))
    (hch := fun c => ⟨.rfl, .rfl, .rfl, ?_⟩)
    (hinit := ?_)
    (QY := fun c s => ∀ b ∈ Pipeline.ucRefs τ sig, s.mem ((c : Thread nD τ).1, b) = fin m c b)
    (hfin := fun c s' => ?_)
    (hQ := fun s h hz => ⟨fun c => ⟨(h c _ (mem_unscoped main_v0 (by decide))).trans (fin_result m c),
      (h c _ (mem_unscoped main_arg0 (by decide))).trans (fin_arg m c main_arg0 (by decide) (by decide) (by decide)),
      (h c _ (mem_unscoped main_arg1 (by decide))).trans (fin_arg m c main_arg1 (by decide) (by decide) (by decide)),
      (h c _ (mem_unscoped main_arg2 (by decide))).trans (fin_arg m c main_arg2 (by decide) (by decide) (by decide)),
      (h c _ (mem_unscoped main_arg3 (by decide))).trans (fin_arg m c main_arg3 (by decide) (by decide) (by decide)),
      (h c _ (mem_unscoped main_arg4 (by decide))).trans (fin_arg m c main_arg4 (by decide) (by decide) (by decide))⟩,
      funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact sep_mono .rfl (by iintro ⟨-, HO⟩; iexact HO)
  · refine Pipeline.initEach noCells noLevels fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (fin m c) s')
    isplitl [Hh] <;> iassumption

end Cert.KernelIdeal.Own

end
-- ==== Proof.KernelRun.lean ====
/- The compiled program's run: it is the idealized program's text read at any values, so the run proved there is this one's. -/
module

public import proofs.«01_k».proof.Proof.KI.Run
public import proofs.«01_k».proof.Proof.Gen.Kernel

@[expose] public section

set_option maxRecDepth 65536

namespace Cert.Kernel.Own

open Idealize.ShloMosaic Idealize.ShloMosaic.TcCoe

variable {F : FTy → Type} [FloatOps F]

/-- The two programs have one table of kernel bodies. -/
theorem defs_same : (Cert.Kernel.defs₀ (F := F)) = Cert.KernelIdeal.defs₀ (F := F) := by
  unfold Cert.Kernel.defs₀ Cert.KernelIdeal.defs₀
  refine congrArg Defs.onTc ?_
  funext ℓ x
  obtain ⟨ℓ, h⟩ := ℓ
  match ℓ, h, x with
  | 0, _, (_, _) => rfl
  | 1, _, (_, _) => rfl
  | n + 2, h, _ => exact absurd h (Nat.not_lt.2 (Nat.le_add_left _ _))

/-- Every weakly fair execution ends, with every argument as launched and every counter at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.KernelIdeal.Own.run (F := F) m ρ
  have h' := (θ_run _ _ _).mono (fun r hr => And.intro (fun c => (hr.1 c).2) hr.2) h
  unfold defs
  rw [defs_same]
  exact h'

end Cert.Kernel.Own

end
-- ==== Proof.Frames.lean ====
/- The frame claims: each program ends, with its arguments as launched and every counter at zero. -/
module

public import proofs.«01_k».proof.Defs
public import proofs.«01_k».proof.Proof.KernelRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The compiled kernel's frame. -/
theorem kernel_frame : Cert.quiescent_Kernel := fun m ρ _ => Cert.Kernel.Own.run m ρ

/-- The idealized kernel's frame. -/
theorem ideal_frame : Cert.quiescent_KernelIdeal := fun m ρ _ =>
  (θ_run _ _ _).mono (fun _ h => ⟨fun c => (h.1 c).2, h.2⟩) (Cert.KernelIdeal.Own.run m ρ)

/-- The idealized reference's frame: it has no semaphore. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

end Cert.Proof

end
-- ==== Proof.Scan.lean ====
/- Doubling scans over lanes, and the running maximum over the rows of one number. -/
module

public import Mathlib.Data.Finset.Lattice.Fold
public import Mathlib.Order.Interval.Finset.Nat
public import Mathlib.Tactic.Ring

@[expose] public section

namespace Cert.Scan

variable {α : Type} [SemilatticeSup α] [OrderBot α]

/-- One round of a doubling scan: a lane whose reach is at least `k` takes in the lane `k` before it. -/
def step (d : ℕ → ℕ) (k : ℕ) (x : ℕ → α) : ℕ → α := fun l => if k ≤ d l then x l ⊔ x (l - k) else x l

/-- The maximum over a lane and the `w` lanes before it, as far as its reach goes. -/
def span (d : ℕ → ℕ) (x : ℕ → α) (w : ℕ) : ℕ → α := fun l => (Finset.Icc (l - min (d l) w) l).sup x

/-- A span of no lanes before is the lane itself. -/
theorem span_zero (d : ℕ → ℕ) (x : ℕ → α) : span d x 0 = x := by
  funext l; simp [span]

/-- A reach that shrinks by as much as one goes back, and never leaves the lanes. -/
structure Reach (d : ℕ → ℕ) : Prop where
  le : ∀ l, d l ≤ l
  back : ∀ l k, k ≤ d l → d (l - k) = d l - k

/-- A round doubles the span. -/
theorem step_span {d : ℕ → ℕ} (hd : Reach d) (x : ℕ → α) (w k v : ℕ) (hk : k = w + 1) (hv : v = 2 * w + 1) :
    step d k (span d x w) = span d x v := by
  subst hk hv
  funext l
  have hl := hd.le l
  unfold step span
  split
  next h =>
    rw [hd.back l _ h, ← Finset.sup_union]
    congr 1
    ext i
    simp only [Finset.mem_union, Finset.mem_Icc]
    omega
  next h => rw [show min (d l) w = min (d l) (2 * w + 1) by omega]

/-- All the rounds on 1280 lanes. -/
def rounds (d : ℕ → ℕ) (x : ℕ → α) : ℕ → α :=
  step d 1024 (step d 512 (step d 256 (step d 128 (step d 64 (step d 32 (step d 16 (step d 8
    (step d 4 (step d 2 (step d 1 x))))))))))

/-- After all rounds a lane holds the maximum over its whole reach. -/
theorem rounds_eq {d : ℕ → ℕ} (hd : Reach d) (x : ℕ → α) (l : ℕ) (hl : l < 2048) :
    rounds d x l = (Finset.Icc (l - d l) l).sup x := by
  have h0 := span_zero d x
  unfold rounds
  conv_lhs => rw [← h0]
  rw [step_span hd x 0 1 1 rfl rfl, step_span hd x 1 2 3 rfl rfl, step_span hd x 3 4 7 rfl rfl,
    step_span hd x 7 8 15 rfl rfl, step_span hd x 15 16 31 rfl rfl, step_span hd x 31 32 63 rfl rfl,
    step_span hd x 63 64 127 rfl rfl, step_span hd x 127 128 255 rfl rfl, step_span hd x 255 256 511 rfl rfl,
    step_span hd x 511 512 1023 rfl rfl, step_span hd x 1023 1024 2047 rfl rfl]
  unfold span
  have := hd.le l
  rw [show min (d l) 2047 = d l by omega]

/-- The reach that goes back to the first lane. -/
theorem reach_id : Reach (fun l => l) := ⟨fun _ => le_rfl, fun _ _ _ => rfl⟩

section ids

variable {β : Type} [DecidableEq β]

/-- A lane number where a run begins, zero elsewhere. -/
def mark (id : ℕ → β) : ℕ → ℕ := fun l => if l = 0 ∨ id l ≠ id (l - 1) then l else 0

/-- The first lane of a lane's run. -/
def head (id : ℕ → β) (l : ℕ) : ℕ := (Finset.Icc 0 l).sup (mark id)

/-- A mark is not past its lane. -/
theorem mark_le (id : ℕ → β) (l : ℕ) : mark id l ≤ l := by unfold mark; split <;> omega

/-- A head is not past its lane. -/
theorem head_le (id : ℕ → β) (l : ℕ) : head id l ≤ l :=
  Finset.sup_le fun i hi => (mark_le id i).trans (Finset.mem_Icc.1 hi).2

/-- The head is a head. -/
theorem head_spec (id : ℕ → β) (l : ℕ) : head id l = 0 ∨ id (head id l) ≠ id (head id l - 1) := by
  obtain ⟨i, -, hi⟩ := Finset.exists_mem_eq_sup (Finset.Icc 0 l) ⟨0, by simp⟩ (mark id)
  change head id l = _ at hi
  rw [hi]
  unfold mark
  split
  next h => exact h
  next h => exact .inl rfl

/-- A lane where the number changes is not past the head of any later lane. -/
theorem le_head (id : ℕ → β) {i l : ℕ} (h : i ≤ l) (hi : id i ≠ id (i - 1)) : i ≤ head id l := by
  have := Finset.le_sup (f := mark id) (Finset.mem_Icc.2 ⟨Nat.zero_le i, h⟩)
  rwa [mark, if_pos (.inr hi)] at this

/-- From its head to a lane the number doesn't change. -/
theorem same_of_head_le (id : ℕ → β) {l : ℕ} (j : ℕ) (h : head id l + j ≤ l) : id (head id l + j) = id (head id l) := by
  induction j with
  | zero => rfl
  | succ j ih =>
    rw [← ih (by omega)]
    by_contra hne
    have := le_head id h (by rwa [show head id l + (j + 1) - 1 = head id l + j by omega])
    omega

/-- A lane between a head and its lane has the same head. -/
theorem head_eq_of_le (id : ℕ → β) {i l : ℕ} (h : i ≤ l) (hh : head id l ≤ i) : head id i = head id l := by
  apply le_antisymm
  · exact Finset.sup_mono (Finset.Icc_subset_Icc le_rfl h)
  · rcases head_spec id l with h0 | h0
    · omega
    · exact le_head id hh h0

/-- A lane's distance to the head of its run is a reach. -/
theorem reach_head (id : ℕ → β) : Reach (fun l => l - head id l) := by
  refine ⟨fun l => Nat.sub_le _ _, fun l k hk => ?_⟩
  have := head_le id l
  change l - k - head id (l - k) = l - head id l - k
  change k ≤ l - head id l at hk
  rw [head_eq_of_le id (Nat.sub_le l k) (by omega)]
  omega

/-- Rows with one number lie together. -/
def Together (id : ℕ → β) (N : ℕ) : Prop := ∀ i j k, i ≤ j → j ≤ k → k < N → id i = id k → id j = id k

/-- The maximum over the rows up to a row that have its number. -/
def upTo (id : ℕ → β) (x : ℕ → α) (r : ℕ) : α := ((Finset.range (r + 1)).filter fun i => id i = id r).sup x

/-- A row of the same number is at most the running maximum. -/
theorem le_upTo (id : ℕ → β) (x : ℕ → α) {i r : ℕ} (h : i ≤ r) (e : id i = id r) : x i ≤ upTo id x r :=
  Finset.le_sup (by simp [e]; omega)

/-- The running maximum is at most what bounds all the rows it takes in. -/
theorem upTo_le (id : ℕ → β) (x : ℕ → α) {r : ℕ} {a : α} (h : ∀ i, i ≤ r → id i = id r → x i ≤ a) :
    upTo id x r ≤ a :=
  Finset.sup_le fun i hi => by
    simp only [Finset.mem_filter, Finset.mem_range] at hi
    exact h i (by omega) hi.2

/-- The scan by distances to the heads is the maximum over the rows of the same number. -/
theorem rounds_head {id : ℕ → β} {N : ℕ} (h : Together id N) (x : ℕ → α) (l : ℕ) (hl : l < N) (hl' : l < 2048) :
    rounds (fun l => l - head id l) x l = upTo id x l := by
  rw [rounds_eq (reach_head id) x l hl']
  have hle := head_le id l
  unfold upTo
  congr 1
  ext i
  simp only [Finset.mem_Icc, Finset.mem_filter, Finset.mem_range]
  rw [show l - (l - head id l) = head id l by omega]
  constructor
  · rintro ⟨h1, h2⟩
    refine ⟨by omega, ?_⟩
    have e1 := same_of_head_le id (l := l) (i - head id l) (by omega)
    have e2 := same_of_head_le id (l := l) (l - head id l) (by omega)
    rw [show head id l + (i - head id l) = i by omega] at e1
    rw [show head id l + (l - head id l) = l by omega] at e2
    rw [e1, e2]
  · rintro ⟨h1, h2⟩
    refine ⟨?_, by omega⟩
    by_contra hlt
    rcases head_spec id l with h0 | h0
    · omega
    · have e1 := h i (head id l - 1) l (by omega) (by omega) hl h2
      have e2 := h i (head id l) l (by omega) (by omega) hl h2
      exact h0 (e2.trans e1.symm)

/-- The heads as the kernel finds them: rounds over the marks. -/
theorem rounds_mark (id : ℕ → β) (l : ℕ) (hl : l < 2048) : rounds (fun l => l) (mark id) l = head id l := by
  rw [rounds_eq reach_id _ l hl]
  simp [head]

/-- The running maximum of a row from its block and the last row of the block before. -/
theorem upTo_block {id : ℕ → β} {N : ℕ} (h : Together id N) (x : ℕ → α) (base l : ℕ) (hN : base + l < N) :
    upTo id x (base + l) =
      if 0 < base ∧ id (base + l) = id (base - 1) then
        upTo (fun i => id (base + i)) (fun i => x (base + i)) l ⊔ upTo id x (base - 1)
      else upTo (fun i => id (base + i)) (fun i => x (base + i)) l := by
  split
  next hc =>
    apply le_antisymm
    · refine upTo_le id x fun i hi he => ?_
      by_cases hb : base ≤ i
      · refine le_sup_of_le_left ?_
        have := le_upTo (fun i => id (base + i)) (fun i => x (base + i)) (i := i - base) (r := l) (by omega)
          (by change id (base + (i - base)) = id (base + l); rwa [show base + (i - base) = i by omega])
        simpa only [show base + (i - base) = i by omega] using this
      · exact le_sup_of_le_right (le_upTo id x (by omega) (he.trans hc.2))
    · refine sup_le ?_ ?_
      · exact upTo_le _ _ fun i hi he => le_upTo id x (by omega) he
      · exact upTo_le _ _ fun i hi he => le_upTo id x (by omega) (he.trans hc.2.symm)
  next hc =>
    apply le_antisymm
    · refine upTo_le id x fun i hi he => ?_
      have hb : base ≤ i := by
        by_contra hlt
        exact hc ⟨by omega, (h i (base - 1) (base + l) (by omega) (by omega) hN he).symm⟩
      have := le_upTo (fun i => id (base + i)) (fun i => x (base + i)) (i := i - base) (r := l) (by omega)
          (by change id (base + (i - base)) = id (base + l); rwa [show base + (i - base) = i by omega])
      simpa only [show base + (i - base) = i by omega] using this
    · exact upTo_le _ _ fun i hi he => le_upTo id x (by omega) he

/-- The maximum over all rows of a row's number. -/
def whole (id : ℕ → β) (x : ℕ → α) (N r : ℕ) : α := ((Finset.range N).filter fun i => id i = id r).sup x

/-- Running maxima forwards, then backwards, give the maximum over the whole segment. -/
theorem upTo_rev {id : ℕ → β} (x : ℕ → α) (N R : ℕ) (hR : R < N) :
    upTo (fun i => id (N - 1 - i)) (fun i => upTo id x (N - 1 - i)) R = whole id x N (N - 1 - R) := by
  apply le_antisymm
  · refine upTo_le _ _ fun i hi he => upTo_le _ _ fun j hj he' => ?_
    exact Finset.le_sup (by
      simp only [Finset.mem_filter, Finset.mem_range]
      exact ⟨by omega, he'.trans he⟩)
  · refine Finset.sup_le fun j hj => ?_
    simp only [Finset.mem_filter, Finset.mem_range] at hj
    by_cases hjr : j ≤ N - 1 - R
    · exact (le_upTo id x hjr hj.2).trans
        (le_upTo (fun i => id (N - 1 - i)) (fun i => upTo id x (N - 1 - i)) le_rfl rfl)
    · have := le_upTo (fun i => id (N - 1 - i)) (fun i => upTo id x (N - 1 - i)) (i := N - 1 - j) (r := R) (by omega)
        (by change id (N - 1 - (N - 1 - j)) = _; rw [show N - 1 - (N - 1 - j) = j by omega]; exact hj.2)
      refine le_trans ?_ this
      rw [show N - 1 - (N - 1 - j) = j by omega]
      exact le_upTo id x le_rfl rfl

/-- Reversed rows lie together too. -/
theorem Together.rev {id : ℕ → β} {N : ℕ} (h : Together id N) : Together (fun i => id (N - 1 - i)) N := by
  intro i j k hij hjk hk e
  have := h (N - 1 - k) (N - 1 - j) (N - 1 - i) (by omega) (by omega) (by omega) e.symm
  exact this.trans e

/-- A block of rows that lie together. -/
theorem Together.block {id : ℕ → β} {N : ℕ} (h : Together id N) (base n : ℕ) (hn : base + n ≤ N) :
    Together (fun i => id (base + i)) n := by
  intro i j k hij hjk hk e
  exact h (base + i) (base + j) (base + k) (by omega) (by omega) (by omega) e

end ids

end Cert.Scan

end
-- ==== Proof.KI.Lanes.lean ====
module

public import proofs.«01_k».proof.Proof.Scan
public import Idealize.ShloMosaic.Lib.Pointwise
public import Idealize.ShloMosaic.Lib.Pointwise.IndexVar
public import Idealize.ShloMosaic.Lib.WordCmp

@[expose] public section

noncomputable section

namespace Cert.Lanes

open Idealize.ShloMosaic Idealize.ShloMosaic.WordCmp Cert.Scan

/-- An array of `m` rows of 1280 lanes. -/
abbrev Arr (m : ℕ) (α : Type) : Type := (⟨2, ![m, 1280]⟩ : Shape).Idx → α

/-- Lane `l`, counted from the first. -/
def fw (l : ℕ) (h : l < 1280) : Fin 1280 := ⟨l, h⟩

/-- Lane `l`, counted from the last. -/
def bw (l : ℕ) (h : l < 1280) : Fin 1280 := ⟨1279 - l, by omega⟩

section
variable {α : Type} {m : ℕ}

/-- A rotation of the lanes, written as two slices put together the other way round. -/
theorem roll_apply {k c : ℕ} (x : Arr m α) (hk : k + c = 1280)
    (h1 : (⟨2, ![m, 1280]⟩ : Shape).Slices ![0, c] ⟨2, ![m, k]⟩)
    (h2 : (⟨2, ![m, 1280]⟩ : Shape).Slices ![0, 0] ⟨2, ![m, c]⟩)
    (h3 : Shape.Concatenates [⟨2, ![m, k]⟩, ⟨2, ![m, c]⟩] ⟨2, ![m, 1280]⟩ 1) (u : Fin m) (l : Fin 1280) :
    concatenate ⟨2, ![m, 1280]⟩ 1 [⟨⟨2, ![m, k]⟩, extractStridedSlice ⟨2, ![m, k]⟩ ![0, c] x h1⟩,
      ⟨⟨2, ![m, c]⟩, extractStridedSlice ⟨2, ![m, c]⟩ ![0, 0] x h2⟩] h3 (ix2 u l)
      = if h : l.val < k then x (ix2 u ⟨l.val + c, by omega⟩) else x (ix2 u ⟨l.val - k, by omega⟩) := by
  have := l.isLt
  split
  next h =>
    refine (concatenate_pair_apply_left 1 _ _ h3 (ix2 u l) rfl (ix2 u ⟨l.val, h⟩)
      (fun b => by match b with | 0 => rfl | 1 => rfl)).trans ?_
    refine extractStridedSlice_apply _ x h1 _ _ fun a => ?_
    match a with
    | 0 => exact (Nat.zero_add _).symm
    | 1 => exact Nat.add_comm _ _
  next h =>
    refine (concatenate_pair_apply_right 1 _ _ h3 (ix2 u l) rfl rfl (ix2 u ⟨l.val - k, by omega⟩)
      (fun b hb => by match b with | 0 => rfl | 1 => exact absurd rfl hb)
      (Nat.sub_add_cancel (Nat.le_of_not_lt h))).trans ?_
    refine extractStridedSlice_apply _ x h2 _ _ fun a => ?_
    match a with
    | 0 => exact (Nat.zero_add _).symm
    | 1 => exact (Nat.zero_add _).symm

/-- What the array holds, row by row, the lanes numbered by `σ`. -/
def Holds (σ : (l : ℕ) → l < 1280 → Fin 1280) (x : Arr m α) (f : Fin m → ℕ → α) : Prop :=
  ∀ u l h, x (ix2 u (σ l h)) = f u l

end

/-- A lane word read as a choice. -/
theorem select_ofBool {α : Type} (p : Prop) [Decidable p] (a b : α) :
    Scalar.select (BitVec.ofBool (decide p)) a b = if p then a else b := by
  by_cases h : p <;> simp [Scalar.select, h]

section float

/-- The mask of a round, one row of bits given to every row. -/
theorem mask_apply {d : Arr 1 (BitVec 32)} {w : BitVec 32} {p : CmpIPredicate} {h0 h0'} (u : Fin 64) (l : Fin 1280) :
    broadcastTo ⟨2, ![64, 1280]⟩ (shapeCast ⟨2, ![1, 1280]⟩
        (cmpi p d (broadcast ⟨2, ![1, 1280]⟩ w)) h0) h0' (ix2 u l)
      = IntOp.cmpi p (d (ix2 0 l)) w := by pointwise

/-- One round of the maximum scan over lanes, forwards. -/
theorem round_fw {k c : ℕ} (hk : k + c = 1280) {d : Arr 1 (BitVec 32)} {δ : ℕ → ℕ} (hd : Reach δ)
    (hD : Holds fw d fun _ l => BitVec.ofNat 32 (δ l)) {x : Arr 64 (Ideal .f32)} {f : Fin 64 → ℕ → EReal}
    (hx : Holds fw x f) {h0 h0' h1 h2 h3} :
    Holds fw (select (broadcastTo ⟨2, ![64, 1280]⟩ (shapeCast ⟨2, ![1, 1280]⟩
        (cmpi .sge d (broadcast ⟨2, ![1, 1280]⟩ (BitVec.ofNat 32 k))) h0) h0')
      (maximumf x (concatenate ⟨2, ![64, 1280]⟩ 1 [⟨⟨2, ![64, k]⟩, extractStridedSlice ⟨2, ![64, k]⟩ ![0, c] x h1⟩,
      ⟨⟨2, ![64, c]⟩, extractStridedSlice ⟨2, ![64, c]⟩ ![0, 0] x h2⟩] h3)) x)
      (fun u => step δ k (f u)) := by
  intro u l h
  have hle := hd.le l
  change Scalar.select (broadcastTo _ _ h0' (ix2 u (fw l h))) (max (x _) (concatenate _ _ _ h3 (ix2 u (fw l h)))) (x _) = _
  rw [mask_apply, hD 0 l h, cmpi_sge_ofNat (by norm_num; omega) (by norm_num; omega), select_ofBool, hx u l h]
  change _ = step δ k (f u) l
  unfold step
  by_cases hkl : k ≤ δ l
  · rw [if_pos hkl, if_pos hkl, roll_apply x hk h1 h2 h3 u (fw l h), dif_neg (by change ¬ l < k; omega)]
    exact congrArg (max _) (hx u (l - k) (by omega))
  · rw [if_neg hkl, if_neg hkl]

/-- One round of the maximum scan over lanes, backwards. -/
theorem round_bw {k c : ℕ} (hk : c + k = 1280) {d : Arr 1 (BitVec 32)} {δ : ℕ → ℕ} (hd : Reach δ)
    (hD : Holds bw d fun _ l => BitVec.ofNat 32 (δ l)) {x : Arr 64 (Ideal .f32)} {f : Fin 64 → ℕ → EReal}
    (hx : Holds bw x f) {h0 h0' h1 h2 h3} :
    Holds bw (select (broadcastTo ⟨2, ![64, 1280]⟩ (shapeCast ⟨2, ![1, 1280]⟩
        (cmpi .sge d (broadcast ⟨2, ![1, 1280]⟩ (BitVec.ofNat 32 k))) h0) h0')
      (maximumf x (concatenate ⟨2, ![64, 1280]⟩ 1 [⟨⟨2, ![64, c]⟩, extractStridedSlice ⟨2, ![64, c]⟩ ![0, k] x h1⟩,
      ⟨⟨2, ![64, k]⟩, extractStridedSlice ⟨2, ![64, k]⟩ ![0, 0] x h2⟩] h3)) x)
      (fun u => step δ k (f u)) := by
  intro u l h
  have hle := hd.le l
  change Scalar.select (broadcastTo _ _ h0' (ix2 u (bw l h))) (max (x _) (concatenate _ _ _ h3 (ix2 u (bw l h)))) (x _) = _
  rw [mask_apply, hD 0 l h, cmpi_sge_ofNat (by norm_num; omega) (by norm_num; omega), select_ofBool, hx u l h]
  change _ = step δ k (f u) l
  unfold step
  by_cases hkl : k ≤ δ l
  · rw [if_pos hkl, if_pos hkl, roll_apply x hk h1 h2 h3 u (bw l h), dif_pos (by change 1279 - l < c; omega),
      ← hx u (l - k) (by omega)]
    exact congrArg (fun j => max _ (x (ix2 u j))) (Fin.ext (by change 1279 - l + k = 1279 - (l - k); omega))
  · rw [if_neg hkl, if_neg hkl]

end float

section int

/-- The larger of two small words. -/
theorem maxsi_ofNat {a b : ℕ} (ha : a < 1280) (hb : b < 1280) :
    IntOp.maxsi (BitVec.ofNat 32 a) (BitVec.ofNat 32 b) = BitVec.ofNat 32 (a ⊔ b) := by
  unfold IntOp.maxsi
  rw [BitVec.slt_eq_decide, toInt_ofNat_of_lt (by norm_num; omega), toInt_ofNat_of_lt (by norm_num; omega)]
  by_cases h : b < a
  · rw [if_pos (by simpa using h), max_eq_left (by omega)]
  · rw [if_neg (by simpa using h), max_eq_right (by omega)]

/-- The smaller of two small words. -/
theorem minsi_ofNat {a b : ℕ} (ha : a < 1280) (hb : b < 1280) :
    IntOp.minsi (BitVec.ofNat 32 a) (BitVec.ofNat 32 b) = BitVec.ofNat 32 (a ⊓ b) := by
  unfold IntOp.minsi
  rw [BitVec.slt_eq_decide, toInt_ofNat_of_lt (by norm_num; omega), toInt_ofNat_of_lt (by norm_num; omega)]
  by_cases h : a < b
  · rw [if_pos (by simpa using h), min_eq_left (by omega)]
  · rw [if_neg (by simpa using h), min_eq_right (by omega)]

/-- Lane numbers held as words: none is past its own lane. -/
def Heads (s : Arr 1 (BitVec 32)) (f : ℕ → ℕ) : Prop := (Holds fw s fun _ l => BitVec.ofNat 32 (f l)) ∧ ∀ l, f l ≤ l

/-- The same counted from the last lane. -/
def Tails (s : Arr 1 (BitVec 32)) (f : ℕ → ℕ) : Prop :=
  (Holds bw s fun _ l => BitVec.ofNat 32 (1279 - f l)) ∧ ∀ l, f l ≤ l

/-- A round on lane numbers that are not past their lanes leaves them so. -/
theorem step_le {f : ℕ → ℕ} (k : ℕ) (hf : ∀ l, f l ≤ l) (l : ℕ) : step (fun l => l) k f l ≤ l := by
  have h1 := hf l; have h2 := hf (l - k)
  unfold step; split <;> simp <;> omega

variable {L : Arr 1 (BitVec 32)}

/-- One round of the scan that looks for the heads of the runs. -/
theorem heads_round {k c : ℕ} (hk : k + c = 1280) (hL : Heads L fun l => l)
    {s : Arr 1 (BitVec 32)} {f : ℕ → ℕ} (hs : Heads s f) {h1 h2 h3} :
    Heads (maxsi s (select (cmpi .sge L (broadcast ⟨2, ![1, 1280]⟩ (BitVec.ofNat 32 k)))
      (concatenate ⟨2, ![1, 1280]⟩ 1 [⟨⟨2, ![1, k]⟩, extractStridedSlice ⟨2, ![1, k]⟩ ![0, c] s h1⟩,
        ⟨⟨2, ![1, c]⟩, extractStridedSlice ⟨2, ![1, c]⟩ ![0, 0] s h2⟩] h3) (broadcast ⟨2, ![1, 1280]⟩ 0#32)))
      (step (fun l => l) k f) := by
  refine ⟨fun u l h => ?_, step_le k hs.2⟩
  have h4 := hs.2 l
  have h5 := hs.2 (l - k)
  change IntOp.maxsi (s _) (Scalar.select (IntOp.cmpi .sge (L _) (BitVec.ofNat 32 k)) (concatenate _ _ _ h3 (ix2 u (fw l h))) _) = _
  rw [hL.1 u l h, cmpi_sge_ofNat (by norm_num; omega) (by norm_num; omega), select_ofBool, hs.1 u l h]
  change _ = BitVec.ofNat 32 (step (fun l => l) k f l)
  unfold step
  beta_reduce
  by_cases hkl : k ≤ l
  · rw [if_pos hkl, if_pos hkl, roll_apply s hk h1 h2 h3 u (fw l h), dif_neg (by change ¬ l < k; omega)]
    refine (congrArg (IntOp.maxsi _) (hs.1 u (l - k) (by omega))).trans ?_
    exact maxsi_ofNat (by omega) (by omega)
  · rw [if_neg hkl, if_neg hkl]
    refine (maxsi_ofNat (a := f l) (b := 0) (by omega) (by omega)).trans ?_
    simp

/-- One round of the scan that looks for the ends of the runs. -/
theorem tails_round {k c : ℕ} (hk : c + k = 1280) (hL : Tails L fun l => l)
    {s : Arr 1 (BitVec 32)} {f : ℕ → ℕ} (hs : Tails s f) {h1 h2 h3} :
    Tails (minsi s (select (cmpi .slt L (broadcast ⟨2, ![1, 1280]⟩ (BitVec.ofNat 32 c)))
      (concatenate ⟨2, ![1, 1280]⟩ 1 [⟨⟨2, ![1, c]⟩, extractStridedSlice ⟨2, ![1, c]⟩ ![0, k] s h1⟩,
        ⟨⟨2, ![1, k]⟩, extractStridedSlice ⟨2, ![1, k]⟩ ![0, 0] s h2⟩] h3) (broadcast ⟨2, ![1, 1280]⟩ 1279#32)))
      (step (fun l => l) k f) := by
  refine ⟨fun u l h => ?_, step_le k hs.2⟩
  have h4 := hs.2 l
  have h5 := hs.2 (l - k)
  change IntOp.minsi (s _) (Scalar.select (IntOp.cmpi .slt (L _) (BitVec.ofNat 32 c)) (concatenate _ _ _ h3 (ix2 u (bw l h))) _) = _
  rw [hL.1 u l h, cmpi_slt_ofNat (by norm_num; omega) (by norm_num; omega), select_ofBool, hs.1 u l h]
  change _ = BitVec.ofNat 32 (1279 - step (fun l => l) k f l)
  unfold step
  beta_reduce
  by_cases hkl : k ≤ l
  · rw [if_pos (show 1279 - l < c by omega), if_pos hkl,
      roll_apply s hk h1 h2 h3 u (bw l h), dif_pos (by change 1279 - l < c; omega)]
    have := hs.1 u (l - k) (by omega)
    rw [show (⟨(bw l h).val + k, by change 1279 - l + k < 1280; omega⟩ : Fin 1280) = bw (l - k) (by omega) from
      Fin.ext (by change 1279 - l + k = 1279 - (l - k); omega), this, minsi_ofNat (by omega) (by omega)]
    congr 1
    omega
  · rw [if_neg (show ¬ 1279 - l < c by omega), if_neg hkl]
    refine (minsi_ofNat (a := 1279 - f l) (b := 1279) (by omega) (by omega)).trans ?_
    congr 1
    omega

/-- The distance to the head, as the difference of two lane numbers. -/
theorem heads_sub (hL : Heads L fun l => l) {s : Arr 1 (BitVec 32)} {f : ℕ → ℕ} (hs : Heads s f) :
    Holds fw (subi L s) fun _ l => BitVec.ofNat 32 (l - f l) := by
  intro u l h
  have h4 := hs.2 l
  change IntOp.subi (L _) (s _) = _
  rw [hL.1 u l h, hs.1 u l h]
  apply BitVec.eq_of_toNat_eq
  simp only [IntOp.subi, BitVec.toNat_sub, BitVec.toNat_ofNat]
  omega

/-- The distance to the end. -/
theorem tails_sub (hL : Tails L fun l => l) {s : Arr 1 (BitVec 32)} {f : ℕ → ℕ} (hs : Tails s f) :
    Holds bw (subi s L) fun _ l => BitVec.ofNat 32 (l - f l) := by
  intro u l h
  have h4 := hs.2 l
  change IntOp.subi (s _) (L _) = _
  rw [hL.1 u l h, hs.1 u l h]
  apply BitVec.eq_of_toNat_eq
  simp only [IntOp.subi, BitVec.toNat_sub, BitVec.toNat_ofNat]
  omega

end int

end Cert.Lanes

end

end
-- ==== Proof.KI.Block.lean ====
module

public import proofs.«01_k».proof.Proof.KI.Step
public import proofs.«01_k».proof.Proof.KI.Lanes

@[expose] public section

set_option maxRecDepth 16384

noncomputable section

namespace Cert.KernelIdeal.Own

open Idealize.ShloMosaic Idealize.ShloMosaic.VecWindow Idealize.ShloMosaic.WordCmp
open Cert.KernelIdeal.Gen Cert.Lanes Cert.Scan

/-- A block of segment numbers, its lanes numbered by `σ`. -/
def Ids (σ : (l : ℕ) → l < 1280 → Fin 1280) (x0 : Vec Ideal S1x1x1280 .i32) (id : ℕ → BitVec 32) : Prop :=
  ∀ l h, x0 (ix3 0 0 (σ l h)) = id l

/-- The first region's body reads the block's segment numbers. -/
theorem ids_flat {σ : (l : ℕ) → l < 1280 → Fin 1280} {x0 : Vec Ideal S1x1x1280 .i32} {id : ℕ → BitVec 32}
    (h : Ids σ x0 id) : Holds (m := 1) σ (k0_pay5 x0) fun _ => id := by
  intro u l hl
  refine Eq.trans ?_ (h l hl)
  unfold k0_pay5
  rw [show u = 0 from Subsingleton.elim _ _]
  pointwise

/-- The second region's body reads the block's segment numbers. -/
theorem ids_flat1 {σ : (l : ℕ) → l < 1280 → Fin 1280} {x0 : Vec Ideal S1x1x1280 .i32} {id : ℕ → BitVec 32}
    (h : Ids σ x0 id) : Holds (m := 1) σ (k1_pay3 x0) fun _ => id := ids_flat h

/-- The lane numbers, as a first guess at the heads. -/
theorem lanes_heads : Heads lanes fun l => l :=
  ⟨fun u l h => iota_single_apply .tc S1x1280 32 1 iota_S1x1280_d1_w32 _, fun _ => le_rfl⟩

/-- The lane numbers, as a first guess at the tails. -/
theorem lanes_tails : Tails lanes fun l => l :=
  ⟨fun u l h => iota_single_apply .tc S1x1280 32 1 iota_S1x1280_d1_w32 _, fun _ => le_rfl⟩

/-- The word of a disjunction of two comparisons, as a choice. -/
theorem select_or {α : Type} (p : Prop) [Decidable p] (x y : BitVec 32) (a b : α) :
    Scalar.select (IntOp.ori (BitVec.ofBool (decide p)) (IntOp.cmpi .ne x y)) a b = if p ∨ x ≠ y then a else b := by
  by_cases h' : x = y
  · by_cases h : p <;> simp [Scalar.select, IntOp.ori, IntOp.cmpi, h, h']
  · have e : (x != y) = true := by simpa using h'
    by_cases h : p <;> simp [Scalar.select, IntOp.ori, IntOp.cmpi, h, h', e]

section fwd

variable {x0 : Vec Ideal S1x1x1280 .i32} {id : ℕ → BitVec 32}

/-- Where the first region's runs begin. -/
theorem marks_fw (h : Ids fw x0 id) {h1 h2 h3} :
    Heads (select (ori (cmpi .eq lanes (broadcast S1x1280 0#32)) (cmpi .ne (k0_pay5 x0)
      (concatenate S1x1280 1 [⟨S1x1, extractStridedSlice S1x1 ![0, 1279] (k0_pay5 x0) h1⟩,
        ⟨S1x1279, extractStridedSlice S1x1279 ![0, 0] (k0_pay5 x0) h2⟩] h3))) lanes (broadcast S1x1280 0#32)) (mark id) := by
  refine ⟨fun u l hl => ?_, mark_le id⟩
  have hL := lanes_heads.1 u l hl
  have hI := ids_flat h
  change Scalar.select (IntOp.ori (IntOp.cmpi .eq (lanes _) (BitVec.ofNat 32 0)) (IntOp.cmpi .ne (k0_pay5 x0 _)
    (concatenate _ _ _ h3 (ix2 u (fw l hl))))) (lanes _) (BitVec.ofNat 32 0) = BitVec.ofNat 32 (mark id l)
  rw [hL, cmpi_eq_ofNat (by norm_num; omega) (by norm_num), select_or, hI u l hl,
    roll_apply (m := 1) (k0_pay5 x0) rfl h1 h2 h3 u (fw l hl)]
  unfold mark
  by_cases h0 : l = 0
  · rw [if_pos (.inl h0), if_pos (.inl h0)]
  · rw [dif_neg (by change ¬ l < 1; omega)]
    have : k0_pay5 x0 (ix2 u ⟨(fw l hl).val - 1, by change l - 1 < 1280; omega⟩) = id (l - 1) := hI u (l - 1) (by omega)
    rw [this]
    by_cases hc : l = 0 ∨ id l ≠ id (l - 1)
    · rw [if_pos hc, if_pos hc]
    · rw [if_neg hc, if_neg hc]

/-- The first region's distances. -/
theorem fwdD_holds (h : Ids fw x0 id) : Holds (m := 1) fw (fwdD x0) fun _ l => BitVec.ofNat 32 (l - head id l) := by
  have h7 : Heads (k0_pay7 x0) (step (fun l => l) 2 (step (fun l => l) 1 (mark id))) :=
    heads_round (k := 2) (c := 1278) rfl lanes_heads (heads_round (k := 1) (c := 1279) rfl lanes_heads (marks_fw h))
  have h11 : Heads (k0_pay11 lanes (k0_pay7 x0) k0_pay8 (k0_pay9 x0) k0_pay10) _ :=
    heads_round (k := 128) (c := 1152) rfl lanes_heads (heads_round (k := 64) (c := 1216) rfl lanes_heads
      (heads_round (k := 32) (c := 1248) rfl lanes_heads (heads_round (k := 16) (c := 1264) rfl lanes_heads
        (heads_round (k := 8) (c := 1272) rfl lanes_heads (heads_round (k := 4) (c := 1276) (h3 := concatenates_S1x4_S1x1276_S1x1280_d1) rfl lanes_heads h7)))))
  have h15 : Holds (m := 1) fw (fwdD x0) fun _ l => BitVec.ofNat 32 (l - rounds (fun l => l) (mark id) l) :=
    heads_sub lanes_heads (heads_round (k := 1024) (c := 256) rfl lanes_heads (heads_round (k := 512) (c := 768) rfl lanes_heads
      (heads_round (k := 256) (c := 1024) (h3 := concatenates_S1x256_S1x1024_S1x1280_d1) rfl lanes_heads h11)))
  intro u l hl
  refine (h15 u l hl).trans ?_
  beta_reduce
  rw [rounds_mark id l (by omega)]

variable {x1 : Vec Ideal S1280x128 .f32} {x2 : Vec Ideal S128x64 .f32} {x : Fin 64 → ℕ → EReal}

/-- The first region's maxima within a block, before the carried column, as the last round's input. -/
theorem fwdU_holds (h : Ids fw x0 id) (hx : Holds fw (fwdX x1 x2) x) :
    Holds fw (fwdU x0 x1 x2) fun u => step (fun l => l - head id l) 256 (step (fun l => l - head id l) 128
      (step (fun l => l - head id l) 64 (step (fun l => l - head id l) 32 (step (fun l => l - head id l) 16
      (step (fun l => l - head id l) 8 (step (fun l => l - head id l) 4 (step (fun l => l - head id l) 2
      (step (fun l => l - head id l) 1 (x u))))))))) := by
  have hd := reach_head id
  have hD := fwdD_holds h
  have hP : Holds fw (fwdP x0 x1 x2) _ := round_fw (k := 4) (c := 1276) rfl hd hD
    (round_fw (k := 2) (c := 1278) rfl hd hD (round_fw (k := 1) (c := 1279) rfl hd hD hx))
  exact round_fw (k := 256) (c := 1024) rfl hd hD (round_fw (k := 128) (c := 1152) rfl hd hD
    (round_fw (k := 64) (c := 1216) rfl hd hD (round_fw (k := 32) (c := 1248) rfl hd hD
    (round_fw (k := 16) (c := 1264) rfl hd hD (round_fw (k := 8) (c := 1272) (h3 := concatenates_S64x8_S64x1272_S64x1280_d1) rfl hd hD hP)))))

/-- The carried column taken in where the block goes on with the segment that the block before ended in. -/
theorem carry_in {σ : (l : ℕ) → l < 1280 → Fin 1280} {ids : Arr 1 (BitVec 32)} (hI : Holds σ ids fun _ => id)
    {v : Arr 64 (Ideal .f32)} {g : Fin 64 → ℕ → EReal} (hv : Holds σ v g) (n : BitVec 32) (s : Vec Ideal S64x8 .f32)
    {h0 h1 h2} :
    Holds σ (select (broadcastTo S64x1280 (shapeCast S1x1280 (cmpi .eq ids (broadcast S1x1280 n)) h0) h1)
      (maximumf v (broadcastTo S64x1280 (col s) h2)) v)
      (fun u l => if id l = n then g u l ⊔ s (ix2 u 0) else g u l) := by
  intro u l h
  have hc : broadcastTo S64x1280 (col s) h2 (ix2 u (σ l h)) = s (ix2 u 0) := by
    unfold col window
    pointwise
    exact congrArg s (funext fun a => Fin.ext (by match a with | 0 => exact (by simp [Rect.unit, Rect.emb]) | 1 => rfl))
  change Scalar.select (broadcastTo _ _ h1 (ix2 u (σ l h))) (max (v _) (broadcastTo S64x1280 (col s) h2 (ix2 u (σ l h)))) (v _) = _
  rw [mask_apply, hI 0 l h, hc, hv u l h]
  by_cases e : id l = n
  · simp [Scalar.select, IntOp.cmpi, e]
  · have e' : (id l == n) = false := by simpa using e
    simp [Scalar.select, IntOp.cmpi, e, e']

/-- The first region's maxima up to each lane, the carried column taken in. -/
theorem fwdF_holds (h : Ids fw x0 id) (ht : Together id 1280) (hx : Holds fw (fwdX x1 x2) x)
    (s : Vec Ideal S64x8 .f32) (n : Vec Ideal S1 .i32) :
    Holds fw (fwdF x0 x1 x2 s n) fun u l => if id l = n word0 then upTo id (x u) l ⊔ s (ix2 u 0) else upTo id (x u) l := by
  have hd := reach_head id
  have hD := fwdD_holds h
  have h1 := carry_in (ids_flat h) (round_fw (k := 1024) (c := 256) (h1 := slices_S64x1280_o0_256_S64x1024)
    (h2 := slices_S64x1280_o0_0_S64x256) (h3 := concatenates_S64x1024_S64x256_S64x1280_d1)
    (h0 := shapeCasts_S1x1280_S1x1280) (h0' := broadcasts_S1x1280_S64x1280) rfl hd hD
    (round_fw (k := 512) (c := 768) (h1 := slices_S64x1280_o0_768_S64x512)
    (h2 := slices_S64x1280_o0_0_S64x768) (h3 := concatenates_S64x512_S64x768_S64x1280_d1)
    (h0 := shapeCasts_S1x1280_S1x1280) (h0' := broadcasts_S1x1280_S64x1280) rfl hd hD (fwdU_holds h hx))) (n word0) s
    (h0 := shapeCasts_S1x1280_S1x1280) (h1 := broadcasts_S1x1280_S64x1280) (h2 := broadcasts_S64x1_S64x1280)
  intro u l hl
  refine (h1 u l hl).trans ?_
  change (if id l = n word0 then rounds (fun l => l - head id l) (x u) l ⊔ s (ix2 u 0) else rounds (fun l => l - head id l) (x u) l) = _
  rw [rounds_head ht (x u) l hl (by omega)]

end fwd

section bwd

variable {x0 : Vec Ideal S1x1x1280 .i32} {id : ℕ → BitVec 32}

/-- Where the second region's runs end. -/
theorem marks_bw (h : Ids bw x0 id) {h1 h2 h3} :
    Tails (select (ori (cmpi .eq lanes (broadcast S1x1280 1279#32)) (cmpi .ne (k1_pay3 x0)
      (concatenate S1x1280 1 [⟨S1x1279, extractStridedSlice S1x1279 ![0, 1] (k1_pay3 x0) h1⟩,
        ⟨S1x1, extractStridedSlice S1x1 ![0, 0] (k1_pay3 x0) h2⟩] h3))) lanes (broadcast S1x1280 1279#32)) (mark id) := by
  refine ⟨fun u l hl => ?_, mark_le id⟩
  have hL : lanes (ix2 u (bw l hl)) = BitVec.ofNat 32 (1279 - l) := lanes_tails.1 u l hl
  have hI := ids_flat1 h
  change Scalar.select (IntOp.ori (IntOp.cmpi .eq (lanes _) (BitVec.ofNat 32 1279)) (IntOp.cmpi .ne (k1_pay3 x0 _)
    (concatenate _ _ _ h3 (ix2 u (bw l hl))))) (lanes _) (BitVec.ofNat 32 1279) = BitVec.ofNat 32 (1279 - mark id l)
  rw [hL, cmpi_eq_ofNat (by norm_num; omega) (by norm_num), select_or, hI u l hl,
    roll_apply (m := 1) (k1_pay3 x0) rfl h1 h2 h3 u (bw l hl)]
  unfold mark
  by_cases h0 : l = 0
  · rw [if_pos (.inl (by omega)), if_pos (.inl h0), h0]
  · rw [dif_pos (by change 1279 - l < 1279; omega)]
    have : k1_pay3 x0 (ix2 u ⟨(bw l hl).val + 1, by change 1279 - l + 1 < 1280; omega⟩) = id (l - 1) :=
      (congrArg (fun j => k1_pay3 x0 (ix2 u j)) (Fin.ext (by change 1279 - l + 1 = 1279 - (l - 1); omega))).trans
        (hI u (l - 1) (by omega))
    rw [this]
    by_cases hc : l = 0 ∨ id l ≠ id (l - 1)
    · rw [if_pos (hc.imp (fun _ => by omega) fun h => h), if_pos hc]
    · rw [if_neg (fun hn => hc (hn.imp (fun _ => by omega) fun h => h)), if_neg hc]

/-- The second region's distances. -/
theorem bwdD_holds (h : Ids bw x0 id) : Holds (m := 1) bw (bwdD x0) fun _ l => BitVec.ofNat 32 (l - head id l) := by
  have h5 : Tails (k1_pay5 x0) (step (fun l => l) 4 (step (fun l => l) 2 (step (fun l => l) 1 (mark id)))) :=
    tails_round (k := 4) (c := 1276) rfl lanes_tails (tails_round (k := 2) (c := 1278) rfl lanes_tails
      (tails_round (k := 1) (c := 1279) rfl lanes_tails (marks_bw h)))
  have h6 : Tails (bwdE x0) _ :=
    tails_round (k := 256) (c := 1024) rfl lanes_tails (tails_round (k := 128) (c := 1152) rfl lanes_tails
      (tails_round (k := 64) (c := 1216) rfl lanes_tails (tails_round (k := 32) (c := 1248) rfl lanes_tails
      (tails_round (k := 16) (c := 1264) rfl lanes_tails (tails_round (k := 8) (c := 1272) rfl lanes_tails h5)))))
  have h7 : Holds (m := 1) bw (bwdD x0) fun _ l => BitVec.ofNat 32 (l - rounds (fun l => l) (mark id) l) :=
    tails_sub lanes_tails (tails_round (k := 1024) (c := 256) rfl lanes_tails
      (tails_round (k := 512) (c := 768) rfl lanes_tails h6))
  intro u l hl
  refine (h7 u l hl).trans ?_
  beta_reduce
  rw [rounds_mark id l (by omega)]

variable {y : Vec Ideal S1x128x1280 .f32} {f : Fin 64 → ℕ → EReal}

/-- The second region's maxima within a block after the first four rounds. -/
theorem bwdP_holds (h : Ids bw x0 id) (hf : Holds bw (bwdF y) f) :
    Holds bw (k1_pay8 (bwdF y) lanes (bwdE x0) 768#32) fun u => step (fun l => l - head id l) 8
      (step (fun l => l - head id l) 4 (step (fun l => l - head id l) 2 (step (fun l => l - head id l) 1 (f u)))) := by
  have hd := reach_head id
  have hD := bwdD_holds h
  exact round_bw (k := 8) (c := 1272) rfl hd hD (round_bw (k := 4) (c := 1276) rfl hd hD
    (round_bw (k := 2) (c := 1278) rfl hd hD (round_bw (k := 1) (c := 1279) rfl hd hD hf)))

/-- The second region's maxima within a block after all but the last round. -/
theorem bwdU_holds (h : Ids bw x0 id) (hf : Holds bw (bwdF y) f) :
    Holds bw (bwdU x0 y) fun u => step (fun l => l - head id l) 512 (step (fun l => l - head id l) 256
      (step (fun l => l - head id l) 128 (step (fun l => l - head id l) 64 (step (fun l => l - head id l) 32
      (step (fun l => l - head id l) 16 (step (fun l => l - head id l) 8
      (step (fun l => l - head id l) 4 (step (fun l => l - head id l) 2 (step (fun l => l - head id l) 1 (f u)))))))))) := by
  have hd := reach_head id
  have hD := bwdD_holds h
  have h16 := round_bw (k := 16) (c := 1264) (h0 := shapeCasts_S1x1280_S1x1280) (h0' := broadcasts_S1x1280_S64x1280)
    (h1 := slices_S64x1280_o0_16_S64x1264) (h2 := slices_S64x1280_o0_0_S64x16)
    (h3 := concatenates_S64x1264_S64x16_S64x1280_d1) rfl hd hD (bwdP_holds h hf)
  have h32 := round_bw (k := 32) (c := 1248) (h0 := shapeCasts_S1x1280_S1x1280) (h0' := broadcasts_S1x1280_S64x1280)
    (h1 := slices_S64x1280_o0_32_S64x1248) (h2 := slices_S64x1280_o0_0_S64x32)
    (h3 := concatenates_S64x1248_S64x32_S64x1280_d1) rfl hd hD h16
  have h64 := round_bw (k := 64) (c := 1216) (h0 := shapeCasts_S1x1280_S1x1280) (h0' := broadcasts_S1x1280_S64x1280)
    (h1 := slices_S64x1280_o0_64_S64x1216) (h2 := slices_S64x1280_o0_0_S64x64)
    (h3 := concatenates_S64x1216_S64x64_S64x1280_d1) rfl hd hD h32
  have h128 := round_bw (k := 128) (c := 1152) (h0 := shapeCasts_S1x1280_S1x1280) (h0' := broadcasts_S1x1280_S64x1280)
    (h1 := slices_S64x1280_o0_128_S64x1152) (h2 := slices_S64x1280_o0_0_S64x128)
    (h3 := concatenates_S64x1152_S64x128_S64x1280_d1) rfl hd hD h64
  have h256 := round_bw (k := 256) (c := 1024) (h0 := shapeCasts_S1x1280_S1x1280) (h0' := broadcasts_S1x1280_S64x1280)
    (h1 := slices_S64x1280_o0_256_S64x1024) (h2 := slices_S64x1280_o0_0_S64x256)
    (h3 := concatenates_S64x1024_S64x256_S64x1280_d1) rfl hd hD h128
  have h512 := round_bw (k := 512) (c := 768) (h0 := shapeCasts_S1x1280_S1x1280) (h0' := broadcasts_S1x1280_S64x1280)
    (h1 := slices_S64x1280_o0_512_S64x768) (h2 := slices_S64x1280_o0_0_S64x512)
    (h3 := concatenates_S64x768_S64x512_S64x1280_d1) rfl hd hD h256
  exact h512

/-- The second region's maxima from each lane on, the carried column taken in. -/
theorem bwdM_holds (h : Ids bw x0 id) (ht : Together id 1280) (hf : Holds bw (bwdF y) f)
    (s : Vec Ideal S64x8 .f32) (n : Vec Ideal S1 .i32) :
    Holds bw (bwdM x0 y s n) fun u l => if id l = n word0 then upTo id (f u) l ⊔ s (ix2 u 0) else upTo id (f u) l := by
  have hd := reach_head id
  have hD := bwdD_holds h
  have h1 := carry_in (ids_flat1 h) (round_bw (k := 1024) (c := 256) (h1 := slices_S64x1280_o0_1024_S64x256)
    (h2 := slices_S64x1280_o0_0_S64x1024) (h3 := concatenates_S64x256_S64x1024_S64x1280_d1)
    (h0 := shapeCasts_S1x1280_S1x1280) (h0' := broadcasts_S1x1280_S64x1280) rfl hd hD (bwdU_holds h hf)) (n word0) s
    (h0 := shapeCasts_S1x1280_S1x1280) (h1 := broadcasts_S1x1280_S64x1280) (h2 := broadcasts_S64x1_S64x1280)
  intro u l hl
  refine (h1 u l hl).trans ?_
  change (if id l = n word0 then rounds (fun l => l - head id l) (f u) l ⊔ s (ix2 u 0) else rounds (fun l => l - head id l) (f u) l) = _
  rw [rounds_head ht (f u) l hl (by omega)]

end bwd

section seg

/-- A fold of the signed maximum that has its answer among the words folded. -/
theorem foldl_maxsi {ι : Type} (x : ι → BitVec 32) (t : BitVec 32) (L : List ι) (i : BitVec 32) (hi : i.toInt ≤ t.toInt)
    (hL : ∀ n ∈ L, (x n).toInt ≤ t.toInt) (ht : i = t ∨ ∃ n ∈ L, x n = t) :
    L.foldl (fun r n => IntOp.maxsi r (x n)) i = t := by
  induction L generalizing i with
  | nil => simpa using ht
  | cons n L ih =>
    have hn := hL n (by simp)
    rw [List.foldl_cons]
    have key : IntOp.maxsi i (x n) = if (x n).toInt < i.toInt then i else x n := by
      unfold IntOp.maxsi; rw [BitVec.slt_eq_decide]; simp
    refine ih _ ?_ (fun m hm => hL m (by simp [hm])) ?_
    · rw [key]; split <;> assumption
    · rcases ht with rfl | ⟨m, hm, hx⟩
      · left; rw [key]
        split
        · rfl
        · exact BitVec.eq_of_toInt_eq (by omega)
      · rcases List.mem_cons.1 hm with rfl | hm
        · left; rw [key, hx]
          split
          · exact BitVec.eq_of_toInt_eq (by rw [hx] at *; omega)
          · rfl
        · exact .inr ⟨m, hm, hx⟩

/-- A fold of the signed minimum that has its answer among the words folded. -/
theorem foldl_minsi {ι : Type} (x : ι → BitVec 32) (t : BitVec 32) (L : List ι) (i : BitVec 32) (hi : t.toInt ≤ i.toInt)
    (hL : ∀ n ∈ L, t.toInt ≤ (x n).toInt) (ht : i = t ∨ ∃ n ∈ L, x n = t) :
    L.foldl (fun r n => IntOp.minsi r (x n)) i = t := by
  induction L generalizing i with
  | nil => simpa using ht
  | cons n L ih =>
    have hn := hL n (by simp)
    rw [List.foldl_cons]
    have key : IntOp.minsi i (x n) = if i.toInt < (x n).toInt then i else x n := by
      unfold IntOp.minsi; rw [BitVec.slt_eq_decide]; simp
    refine ih _ ?_ (fun m hm => hL m (by simp [hm])) ?_
    · rw [key]; split <;> assumption
    · rcases ht with rfl | ⟨m, hm, hx⟩
      · left; rw [key]
        split
        · rfl
        · exact BitVec.eq_of_toInt_eq (by omega)
      · rcases List.mem_cons.1 hm with rfl | hm
        · left; rw [key, hx]
          split
          · exact BitVec.eq_of_toInt_eq (by rw [hx] at *; omega)
          · rfl
        · exact .inr ⟨m, hm, hx⟩

/-- A one-word array has one index. -/
theorem one_idx (i j : S1.Idx) : i = j :=
  funext fun a => by
    match a with
    | 0 => exact Subsingleton.elim (α := Fin 1) _ _

variable {x0 : Vec Ideal S1x1x1280 .i32} {id : ℕ → BitVec 32}

/-- The segment numbers that the first region takes the maximum of. -/
theorem flat_apply (h : Ids fw x0 id) (i : S1x1x1280.Idx) :
    shapeCast S1x1x1280 (k0_pay5 x0) shapeCasts_S1x1280_S1x1x1280 i = id (i 2).val := by
  refine Eq.trans ?_ (h (i 2).val (i 2).isLt)
  idx_vars i
  unfold k0_pay5
  rw [show i0 = 0 from Subsingleton.elim _ _, show i1 = 0 from Subsingleton.elim _ _]
  pointwise
  rfl

/-- The segment number the first region carries on: that of the last lane, where the numbers don't decrease. -/
theorem fwdSeg_eq (h : Ids fw x0 id) (hs : ∀ l, l < 1280 → (id l).toInt ≤ (id 1279).toInt) :
    fwdSeg x0 = fun _ => id 1279 := by
  funext j
  change reduceFold reduces_S1x1x1280_S1 IntOp.maxsi 2147483648#32 (shapeCast S1x1x1280 (k0_pay5 x0) shapeCasts_S1x1280_S1x1x1280) _ = _
  unfold reduceFold
  refine foldl_maxsi (fun n => shapeCast S1x1x1280 (k0_pay5 x0) shapeCasts_S1x1280_S1x1x1280 (S1x1x1280.rowMajor.symm n)) _ _ _ ?_ ?_ ?_
  · have := BitVec.le_toInt (id 1279)
    simpa using this
  · intro n _
    beta_reduce
    rw [flat_apply h]
    exact hs _ (Fin.isLt _)
  · refine .inr ⟨S1x1x1280.rowMajor (ix3 0 0 1279), ?_, ?_⟩
    · simp only [List.mem_filter, List.mem_finRange, true_and, decide_eq_true_eq]
      exact one_idx _ _
    · beta_reduce
      rw [flat_apply h, Equiv.symm_apply_apply]
      rfl

/-- The segment numbers that the second region takes the minimum of. -/
theorem flat_apply1 (h : Ids bw x0 id) (i : S1x1x1280.Idx) :
    shapeCast S1x1x1280 (k1_pay3 x0) shapeCasts_S1x1280_S1x1x1280 i = id (1279 - (i 2).val) := by
  have hlt : (i 2).val < 1280 := (i 2).isLt
  refine Eq.trans ?_ (h (1279 - (i 2).val) (by omega))
  rw [show bw (1279 - (i 2).val) (by omega) = i 2 from Fin.ext (by change 1279 - (1279 - (i 2).val) = _; omega)]
  idx_vars i
  unfold k1_pay3
  rw [show i0 = 0 from Subsingleton.elim _ _, show i1 = 0 from Subsingleton.elim _ _]
  pointwise

/-- The segment number the second region carries on: that of the first lane. -/
theorem bwdSeg_eq (h : Ids bw x0 id) (hs : ∀ l, l < 1280 → (id 1279).toInt ≤ (id l).toInt) :
    bwdSeg x0 = fun _ => id 1279 := by
  funext j
  change reduceFold reduces_S1x1x1280_S1 IntOp.minsi 2147483647#32 (shapeCast S1x1x1280 (k1_pay3 x0) shapeCasts_S1x1280_S1x1x1280) _ = _
  unfold reduceFold
  refine foldl_minsi (fun n => shapeCast S1x1x1280 (k1_pay3 x0) shapeCasts_S1x1280_S1x1x1280 (S1x1x1280.rowMajor.symm n)) _ _ _ ?_ ?_ ?_
  · have := BitVec.toInt_lt (x := id 1279)
    simp at this ⊢
    omega
  · intro n _
    beta_reduce
    rw [flat_apply1 h]
    exact hs _ (by omega)
  · refine .inr ⟨S1x1x1280.rowMajor (ix3 0 0 0), ?_, ?_⟩
    · simp only [List.mem_filter, List.mem_finRange, true_and, decide_eq_true_eq]
      exact one_idx _ _
    · beta_reduce
      rw [flat_apply1 h, Equiv.symm_apply_apply]
      rfl

end seg

end Cert.KernelIdeal.Own

end

end
-- ==== Proof.KI.Read.lean ====
module

public import proofs.«01_k».proof.Proof.KI.Block

@[expose] public section

set_option maxRecDepth 16384

noncomputable section

namespace Cert.KernelIdeal.Own

open Idealize.ShloMosaic Idealize.ShloMosaic.VecWindow
open Cert.KernelIdeal.Gen Cert.Lanes Cert.Scan

/-- The projected block is the matrix product. -/
theorem fwdX_apply (x1 : Vec Ideal S1280x128 .f32) (x2 : Vec Ideal S128x64 .f32) (u : Fin 64) (l : Fin 1280) :
    fwdX x1 x2 (ix2 u l) = ∑ k : Fin 128, x2 (ix2 k u) * x1 (ix2 l k) := by
  unfold fwdX k0_pay6
  pointwise

/-- A column written is read back. -/
theorem put_hit (s : Vec Ideal S64x8 .f32) (c : Fin 8) (w : Vec Ideal S64x1 .f32) (u : Fin 64) :
    put s ![0, c.val] S64x1.size w (ix2 u c) = w (ix2 u 0) := by
  unfold put
  have h : ∀ a : Fin 2, (![0, c.val] : Fin 2 → ℕ) a ≤ ((ix2 u c : S64x8.Idx) a).val
      ∧ ((ix2 u c : S64x8.Idx) a).val < (![0, c.val] : Fin 2 → ℕ) a + S64x1.size a := fun a => by
    match a with
    | 0 => exact ⟨Nat.zero_le _, by change u.val < 0 + 64; omega⟩
    | 1 => exact ⟨le_rfl, by change c.val < c.val + 1; omega⟩
  rw [dif_pos h]
  refine congrArg w (funext fun a => Fin.ext ?_)
  match a with
  | 0 => exact Nat.sub_zero _
  | 1 => exact Nat.sub_self _

/-- The other columns are as before. -/
theorem put_miss (s : Vec Ideal S64x8 .f32) (c : ℕ) (j : Fin 8) (hj : j.val ≠ c) (w : Vec Ideal S64x1 .f32) (u : Fin 64) :
    put s ![0, c] S64x1.size w (ix2 u j) = s (ix2 u j) := by
  unfold put
  rw [dif_neg]
  intro h
  have h1 : c ≤ j.val := (h 1).1
  have h2 : j.val < c + 1 := (h 1).2
  omega

/-- The first column. -/
theorem col_apply (s : Vec Ideal S64x8 .f32) (u : Fin 64) : col s (ix2 u 0) = s (ix2 u 0) := by
  unfold col window
  exact congrArg s (funext fun a => Fin.ext (by match a with | 0 => exact (by simp [Rect.unit, Rect.emb, Shape.Idx]) | 1 => rfl))

/-- The second column. -/
theorem col1_apply (s : Vec Ideal S64x8 .f32) (u : Fin 64) : col1 s (ix2 u 0) = s (ix2 u 1) := by
  unfold col1 window
  exact congrArg s (funext fun a => Fin.ext (by match a with | 0 => exact (by simp [Rect.unit, Rect.emb, Shape.Idx]) | 1 => rfl))

/-- A step adds its projected rows to the sums. -/
theorem fwdSums_zero (x1 : Vec Ideal S1280x128 .f32) (x2 : Vec Ideal S128x64 .f32) (a : Vec Ideal S64x8 .f32) (u : Fin 64) :
    fwdSums x1 x2 a (ix2 u 0) = a (ix2 u 0) + ∑ l : Fin 1280, fwdX x1 x2 (ix2 u l) := by
  unfold fwdSums fwdSum1
  rw [put_miss _ 1 0 (by decide), show (![0, 0] : Fin 2 → ℕ) = ![0, (0 : Fin 8).val] from rfl, put_hit, ← col_apply a u]
  generalize fwdX x1 x2 = v
  generalize col a = w
  unfold k0_pay25
  pointwise

/-- A step adds the squares of its projected rows. -/
theorem fwdSums_one (x1 : Vec Ideal S1280x128 .f32) (x2 : Vec Ideal S128x64 .f32) (a : Vec Ideal S64x8 .f32) (u : Fin 64) :
    fwdSums x1 x2 a (ix2 u 1) = a (ix2 u 1) + ∑ l : Fin 1280, fwdX x1 x2 (ix2 u l) * fwdX x1 x2 (ix2 u l) := by
  unfold fwdSums
  rw [show (![0, 1] : Fin 2 → ℕ) = ![0, (1 : Fin 8).val] from rfl, put_hit, ← col1_apply a u]
  generalize fwdX x1 x2 = v
  generalize col1 a = w
  unfold k0_pay1 k0_pay26 k0_pay27
  pointwise

/-- The first region carries on the last lane's maxima. -/
theorem fwdCarry_zero (x0 : Vec Ideal S1x1x1280 .i32) (x1 : Vec Ideal S1280x128 .f32) (x2 : Vec Ideal S128x64 .f32)
    (s : Vec Ideal S64x8 .f32) (n : Vec Ideal S1 .i32) (u : Fin 64) :
    fwdCarry x0 x1 x2 s n (ix2 u 0) = fwdF x0 x1 x2 s n (ix2 u 1279) := by
  unfold fwdCarry
  rw [show (![0, 0] : Fin 2 → ℕ) = ![0, (0 : Fin 8).val] from rfl, put_hit]
  unfold fwdCol fwdF k0_pay23
  generalize k0_pay22 (F := Ideal) _ _ _ _ _ _ _ = v
  pointwise

/-- The second region carries on the first lane's maxima. -/
theorem bwdCarry_zero (x0 : Vec Ideal S1x1x1280 .i32) (y : Vec Ideal S1x128x1280 .f32)
    (s : Vec Ideal S64x8 .f32) (n : Vec Ideal S1 .i32) (u : Fin 64) :
    bwdCarry x0 y s n (ix2 u 0) = bwdM x0 y s n (ix2 u 0) := by
  unfold bwdCarry
  rw [show (![0, 0] : Fin 2 → ℕ) = ![0, (0 : Fin 8).val] from rfl, put_hit]
  unfold bwdM k1_pay11
  generalize k1_pay10 (F := Ideal) _ _ _ _ _ = v
  pointwise

/-- The first 64 rows of a block that the first region writes: the projected rows. -/
theorem fwdOut_low (x0 : Vec Ideal S1x1x1280 .i32) (x1 : Vec Ideal S1280x128 .f32) (x2 : Vec Ideal S128x64 .f32)
    (s : Vec Ideal S64x8 .f32) (n : Vec Ideal S1 .i32) (u : Fin 64) (l : Fin 1280) :
    fwdOut x0 x1 x2 s n (ix3 0 ⟨u.val, by omega⟩ l) = fwdX x1 x2 (ix2 u l) := by
  unfold fwdOut
  generalize fwdX x1 x2 = v
  generalize fwdF x0 x1 x2 s n = w
  unfold k0_pay2
  pointwise

/-- The last 64 rows: the running maxima. -/
theorem fwdOut_high (x0 : Vec Ideal S1x1x1280 .i32) (x1 : Vec Ideal S1280x128 .f32) (x2 : Vec Ideal S128x64 .f32)
    (s : Vec Ideal S64x8 .f32) (n : Vec Ideal S1 .i32) (u : Fin 64) (l : Fin 1280) :
    fwdOut x0 x1 x2 s n (ix3 0 ⟨64 + u.val, by omega⟩ l) = fwdF x0 x1 x2 s n (ix2 u l) := by
  unfold fwdOut
  generalize fwdX x1 x2 = v
  generalize fwdF x0 x1 x2 s n = w
  unfold k0_pay2
  pointwise

/-- The running maxima that the second region reads. -/
theorem bwdF_apply (y : Vec Ideal S1x128x1280 .f32) (u : Fin 64) (l : Fin 1280) :
    bwdF y (ix2 u l) = y (ix3 0 ⟨64 + u.val, by omega⟩ l) := by
  unfold bwdF k1_pay4 window
  pointwise
  refine congrArg y (funext fun a => Fin.ext ?_)
  match a with
  | 0 => rfl
  | 1 => exact (by simp [Rect.unit, Rect.emb, Shape.Idx])
  | 2 => exact (by simp [Rect.unit, Rect.emb, Shape.Idx])

/-- The scale and the shift of the affine map, then the map and the relu on one number. -/
def affine (a0 a1 g b v : EReal) : EReal :=
  max (v * (g * Ideal.rsqrt (Ideal.div a1 (Ideal.ofBits .f32 0x489C4000#32)
      - Ideal.div a0 (Ideal.ofBits .f32 0x489C4000#32) * Ideal.div a0 (Ideal.ofBits .f32 0x489C4000#32)
      + Ideal.ofBits .f32 0x3A83126F#32))
    + (b - Ideal.div a0 (Ideal.ofBits .f32 0x489C4000#32) * (g * Ideal.rsqrt (Ideal.div a1 (Ideal.ofBits .f32 0x489C4000#32)
      - Ideal.div a0 (Ideal.ofBits .f32 0x489C4000#32) * Ideal.div a0 (Ideal.ofBits .f32 0x489C4000#32)
      + Ideal.ofBits .f32 0x3A83126F#32)))) 0

/-- The first 64 columns of a block that the second region writes: the normalized rows. -/
theorem bwdOut_low (x0 : Vec Ideal S1x1x1280 .i32) (y : Vec Ideal S1x128x1280 .f32) (a : Vec Ideal S64x8 .f32)
    (g b : Vec Ideal S64x1 .f32) (s : Vec Ideal S64x8 .f32) (n : Vec Ideal S1 .i32) (u : Fin 64) (l : Fin 1280) :
    bwdOut x0 y a g b s n (ix2 l ⟨u.val, by omega⟩)
      = affine (a (ix2 u 0)) (a (ix2 u 1)) (g (ix2 u 0)) (b (ix2 u 0)) (y (ix3 0 ⟨u.val, by omega⟩ l)) := by
  rw [← col_apply a u, ← col1_apply a u]
  unfold bwdOut affine
  generalize bwdM x0 y s n = v
  generalize col a = c
  generalize col1 a = c1
  unfold k1_pay1 k1_pay13 k1_pay14 window k1_pay13
  pointwise
  have e : (Rect.unit (s := S1x128x1280) ![0, 0, 0] ![1, 64, 1280] inb_S1x128x1280_S1x64x1280_0_0_0).emb (ix3 0 u l)
      = ix3 0 ⟨u.val, by omega⟩ l := funext fun a => Fin.ext (by
    match a with
    | 0 => rfl
    | 1 => exact (by simp [Rect.unit, Rect.emb, Shape.Idx])
    | 2 => exact (by simp [Rect.unit, Rect.emb, Shape.Idx]))
  rw [e]

/-- The last 64 columns: the normalized maxima. -/
theorem bwdOut_high (x0 : Vec Ideal S1x1x1280 .i32) (y : Vec Ideal S1x128x1280 .f32) (a : Vec Ideal S64x8 .f32)
    (g b : Vec Ideal S64x1 .f32) (s : Vec Ideal S64x8 .f32) (n : Vec Ideal S1 .i32) (u : Fin 64) (l : Fin 1280) :
    bwdOut x0 y a g b s n (ix2 l ⟨64 + u.val, by omega⟩)
      = affine (a (ix2 u 0)) (a (ix2 u 1)) (g (ix2 u 0)) (b (ix2 u 0)) (bwdM x0 y s n (ix2 u l)) := by
  rw [← col_apply a u, ← col1_apply a u]
  unfold bwdOut affine
  generalize bwdM x0 y s n = v
  generalize col a = c
  generalize col1 a = c1
  unfold k1_pay1 k1_pay13 k1_pay14 window k1_pay13
  pointwise

end Cert.KernelIdeal.Own

end

end
-- ==== Proof.KI.Fold.lean ====
/- The two regions' carried values, step by step: what they are in terms of the rows seen so far. -/
module

public import proofs.«01_k».proof.Proof.KI.Read
public import proofs.«01_k».proof.Proof.KI.Region1

@[expose] public section

set_option maxRecDepth 16384

noncomputable section

namespace Cert.KernelIdeal.Own

open Idealize.ShloMosaic Idealize.ShloMosaic.Pipeline
open Cert.KernelIdeal.Gen Cert.Lanes Cert.Scan

/-- The first region takes 250 steps. -/
theorem steps0 : cfg0.N = 250 := by decide
/-- The second region takes 250 steps. -/
theorem steps1 : cfg1.N = 250 := by decide

/-- A row's running maximum, from its block's and from what the block before hands over. Before the first
block the handed-over number is one no row carries. -/
theorem carried {id : ℕ → BitVec 32} {N : ℕ} (ht : Together id N) (x : ℕ → EReal) (base l : ℕ) (hN : base + l < N)
    (s : EReal) (n : BitVec 32) (h0 : base = 0 → n = 4294967295#32) (hne : id (base + l) ≠ 4294967295#32)
    (hp : 0 < base → s = upTo id x (base - 1) ∧ n = id (base - 1)) :
    (if id (base + l) = n then upTo (fun i => id (base + i)) (fun i => x (base + i)) l ⊔ s
      else upTo (fun i => id (base + i)) (fun i => x (base + i)) l) = upTo id x (base + l) := by
  rw [upTo_block ht x base l hN]
  rcases Nat.eq_zero_or_pos base with hb | hb
  · rw [if_neg (by rw [h0 hb]; exact hne), if_neg (by omega)]
  · obtain ⟨rfl, rfl⟩ := hp hb
    simp only [hb, true_and]

/-- What the segment numbers of all rows are: equal ones together, in order, none of them the reserved one. -/
structure Sorted (id : ℕ → BitVec 32) (up : ℤ → ℤ → Prop) : Prop where
  together : Together id 320000
  order : ∀ i j, i ≤ j → j < 320000 → up (id i).toInt (id j).toInt
  proper : ∀ i, i < 320000 → id i ≠ 4294967295#32

/-- The first region's blocks are consecutive pieces of all rows. -/
structure Rows0 (V : Entry Ideal) (c : Dev nD) (id : ℕ → BitVec 32) (x : Fin 64 → ℕ → EReal) : Prop where
  ids : ∀ t : Fin cfg0.N, Ids fw (in0_0 V c t) fun l => id (1280 * t.val + l)
  rows : ∀ t : Fin cfg0.N, Holds fw (fwdX (in0_1 V c t) (in0_2 V c t)) fun u l => x u (1280 * t.val + l)

/-- What is carried into step `n` of the first region. -/
structure Carry0 (id : ℕ → BitVec 32) (x : Fin 64 → ℕ → EReal) (n : ℕ)
    (st : Vec Ideal S64x8 .f32 × Vec Ideal S64x8 .f32 × Vec Ideal S1 .i32) : Prop where
  sum : ∀ u : Fin 64, st.1 (ix2 u 0) = ∑ r ∈ Finset.range (1280 * n), x u r
  sq : ∀ u : Fin 64, st.1 (ix2 u 1) = ∑ r ∈ Finset.range (1280 * n), x u r * x u r
  first : 1280 * n = 0 → st.2.2 word0 = 4294967295#32
  next : ∀ u : Fin 64, 0 < 1280 * n → st.2.1 (ix2 u 0) = upTo id (x u) (1280 * n - 1) ∧ st.2.2 word0 = id (1280 * n - 1)

/-- What a step hands on, from its own last row. -/
theorem Carry0.succ {id : ℕ → BitVec 32} {x : Fin 64 → ℕ → EReal} {n : ℕ} {a s : Vec Ideal S64x8 .f32} {k : Vec Ideal S1 .i32}
    (h0 : ∀ u : Fin 64, a (ix2 u 0) = ∑ r ∈ Finset.range (1280 * n), x u r + ∑ l : Fin 1280, x u (1280 * n + l.val))
    (h1 : ∀ u : Fin 64, a (ix2 u 1) = ∑ r ∈ Finset.range (1280 * n), x u r * x u r
      + ∑ l : Fin 1280, x u (1280 * n + l.val) * x u (1280 * n + l.val))
    (h2 : ∀ u : Fin 64, s (ix2 u 0) = upTo id (x u) (1280 * n + 1279)) (h3 : k word0 = id (1280 * n + 1279)) :
    Carry0 id x (n + 1) (a, s, k) := by
  have e : 1280 * n + 1279 = 1280 * (n + 1) - 1 := by omega
  refine ⟨fun u => (h0 u).trans ?_, fun u => (h1 u).trans ?_, fun e => absurd e (by omega), fun u _ => ⟨e ▸ h2 u, e ▸ h3⟩⟩
  · rw [show 1280 * (n + 1) = 1280 * n + 1280 by omega, Finset.sum_range_add,
      Finset.sum_range (n := 1280) fun l => x u (1280 * n + l)]
  · rw [show 1280 * (n + 1) = 1280 * n + 1280 by omega, Finset.sum_range_add,
      Finset.sum_range (n := 1280) fun l => x u (1280 * n + l) * x u (1280 * n + l)]

section region0
variable {V : Entry Ideal} {c : Dev nD} {id : ℕ → BitVec 32} {x : Fin 64 → ℕ → EReal}

/-- The running maxima of a step, from what is carried into it. -/
theorem max0 (hs : Sorted id (· ≤ ·)) (h : Rows0 V c id x) (t : Fin cfg0.N)
    {st : Vec Ideal S64x8 .f32 × Vec Ideal S64x8 .f32 × Vec Ideal S1 .i32} (hc : Carry0 id x t.val st) :
    Holds fw (fwdF (in0_0 V c t) (in0_1 V c t) (in0_2 V c t) st.2.1 st.2.2) fun u l => upTo id (x u) (1280 * t.val + l) := by
  have hN : t.val < 250 := steps0 ▸ t.isLt
  intro u l hl
  refine (fwdF_holds (h.ids t) (hs.together.block (1280 * t.val) 1280 (by omega)) (h.rows t) st.2.1 st.2.2 u l hl).trans ?_
  beta_reduce
  exact carried hs.together (x u) _ l (by omega) _ _ hc.first (hs.proper _ (by omega)) (hc.next u)

/-- The carried values are right at every step. -/
theorem carry0 (hs : Sorted id (· ≤ ·)) (h : Rows0 V c id x) : ∀ (n : ℕ) (hn : n ≤ cfg0.N), Carry0 id x n (state0 V c n hn)
  | 0, _ => by
    rw [state0_zero V c 0 _ rfl]
    refine ⟨fun u => ?_, fun u => ?_, fun _ => rfl, fun u h => absurd h (by omega)⟩
    · simp only [Nat.mul_zero, Finset.range_zero, Finset.sum_empty]
      unfold k0_pay4; pointwise
    · simp only [Nat.mul_zero, Finset.range_zero, Finset.sum_empty]
      unfold k0_pay4; pointwise
  | n + 1, hn => by
    have ih := carry0 hs h n (Nat.le_of_succ_le hn)
    have hN : n < 250 := steps0 ▸ hn
    rw [state0_succ V c ⟨n, hn⟩]
    have hX := h.rows ⟨n, hn⟩
    have hM := max0 hs h ⟨n, hn⟩ ih
    have hseg : fwdSeg (in0_0 V c ⟨n, hn⟩) = fun _ => id (1280 * n + 1279) :=
      fwdSeg_eq (id := fun l => id (1280 * n + l)) (h.ids ⟨n, hn⟩) fun l hl =>
        hs.order (1280 * n + l) (1280 * n + 1279) (by omega) (by omega)
    refine Carry0.succ (fun u => (fwdSums_zero _ _ _ u).trans (congrArg₂ (· + ·) (ih.sum u) ?_))
      (fun u => (fwdSums_one _ _ _ u).trans (congrArg₂ (· + ·) (ih.sq u) ?_))
      (fun u => (fwdCarry_zero _ _ _ _ _ u).trans (hM u 1279 (by omega))) (congrFun hseg word0)
    · exact Finset.sum_congr rfl fun l _ => hX u l.val l.isLt
    · exact Finset.sum_congr rfl fun l _ => congrArg₂ (· * ·) (hX u l.val l.isLt) (hX u l.val l.isLt)

/-- The projected rows, in the first 64 rows of the block a step writes. -/
theorem out0_low (h : Rows0 V c id x) (t : Fin cfg0.N) (u : Fin 64) (l : ℕ) (hl : l < 1280) :
    out0 V c t (ix3 0 ⟨u.val, by omega⟩ ⟨l, hl⟩) = x u (1280 * t.val + l) :=
  (fwdOut_low _ _ _ _ _ u ⟨l, hl⟩).trans (h.rows t u l hl)

/-- Their running maxima, in the last 64 rows of the block. -/
theorem out0_high (hs : Sorted id (· ≤ ·)) (h : Rows0 V c id x) (t : Fin cfg0.N) (u : Fin 64) (l : ℕ) (hl : l < 1280) :
    out0 V c t (ix3 0 ⟨64 + u.val, by omega⟩ ⟨l, hl⟩) = upTo id (x u) (1280 * t.val + l) :=
  (fwdOut_high _ _ _ _ _ u ⟨l, hl⟩).trans (max0 hs h t (carry0 hs h _ _) u l hl)

end region0

/-- The second region's blocks are the pieces of all rows, taken from the last row back. -/
structure Rows1 (V : Entry Ideal) (c : Dev nD) (id : ℕ → BitVec 32) (f : Fin 64 → ℕ → EReal) : Prop where
  ids : ∀ t : Fin cfg1.N, Ids bw (in1_0 V c t) fun l => id (1280 * t.val + l)
  rows : ∀ t : Fin cfg1.N, Holds bw (bwdF (in1_1 V c t)) fun u l => f u (1280 * t.val + l)

/-- What is carried into step `n` of the second region. -/
structure Carry1 (id : ℕ → BitVec 32) (f : Fin 64 → ℕ → EReal) (n : ℕ)
    (st : Vec Ideal S64x8 .f32 × Vec Ideal S1 .i32) : Prop where
  first : 1280 * n = 0 → st.2 word0 = 4294967295#32
  next : ∀ u : Fin 64, 0 < 1280 * n → st.1 (ix2 u 0) = upTo id (f u) (1280 * n - 1) ∧ st.2 word0 = id (1280 * n - 1)

/-- What a step hands on, from its own last row. -/
theorem Carry1.succ {id : ℕ → BitVec 32} {f : Fin 64 → ℕ → EReal} {n : ℕ} {s : Vec Ideal S64x8 .f32} {k : Vec Ideal S1 .i32}
    (h2 : ∀ u : Fin 64, s (ix2 u 0) = upTo id (f u) (1280 * n + 1279)) (h3 : k word0 = id (1280 * n + 1279)) :
    Carry1 id f (n + 1) (s, k) := by
  have e : 1280 * n + 1279 = 1280 * (n + 1) - 1 := by omega
  exact ⟨fun e => absurd e (by omega), fun u _ => ⟨e ▸ h2 u, e ▸ h3⟩⟩

section region1
variable {V : Entry Ideal} {c : Dev nD} {id : ℕ → BitVec 32} {f : Fin 64 → ℕ → EReal}

/-- The running maxima of a step, from what is carried into it. -/
theorem max1 (hs : Sorted id (· ≥ ·)) (h : Rows1 V c id f) (t : Fin cfg1.N)
    {st : Vec Ideal S64x8 .f32 × Vec Ideal S1 .i32} (hc : Carry1 id f t.val st) :
    Holds bw (bwdM (in1_0 V c t) (in1_1 V c t) st.1 st.2) fun u l => upTo id (f u) (1280 * t.val + l) := by
  have hN : t.val < 250 := steps1 ▸ t.isLt
  intro u l hl
  refine (bwdM_holds (h.ids t) (hs.together.block (1280 * t.val) 1280 (by omega)) (h.rows t) st.1 st.2 u l hl).trans ?_
  beta_reduce
  exact carried hs.together (f u) _ l (by omega) _ _ hc.first (hs.proper _ (by omega)) (hc.next u)

/-- The carried values are right at every step. -/
theorem carry1 (hs : Sorted id (· ≥ ·)) (h : Rows1 V c id f) : ∀ (n : ℕ) (hn : n ≤ cfg1.N), Carry1 id f n (state1 V c n hn)
  | 0, _ => by
    rw [state1_zero V c 0 _ rfl]
    exact ⟨fun _ => rfl, fun u h => absurd h (by omega)⟩
  | n + 1, hn => by
    have ih := carry1 hs h n (Nat.le_of_succ_le hn)
    have hN : n < 250 := steps1 ▸ hn
    rw [state1_succ V c ⟨n, hn⟩]
    have hM := max1 hs h ⟨n, hn⟩ ih
    have hseg : bwdSeg (in1_0 V c ⟨n, hn⟩) = fun _ => id (1280 * n + 1279) :=
      bwdSeg_eq (id := fun l => id (1280 * n + l)) (h.ids ⟨n, hn⟩) fun l hl =>
        hs.order (1280 * n + l) (1280 * n + 1279) (by omega) (by omega)
    exact Carry1.succ (fun u => (bwdCarry_zero _ _ _ _ u).trans (hM u 1279 (by omega))) (congrFun hseg word0)

/-- The normalized rows, in the first 64 columns of the block a step writes. -/
theorem out1_low (t : Fin cfg1.N) (u : Fin 64) (l : Fin 1280) :
    out1 V c t (ix2 l ⟨u.val, by omega⟩) = affine (in1_2 V c t (ix2 u 0)) (in1_2 V c t (ix2 u 1)) (in1_3 V c t (ix2 u 0))
      (in1_4 V c t (ix2 u 0)) (in1_1 V c t (ix3 0 ⟨u.val, by omega⟩ l)) :=
  bwdOut_low _ _ _ _ _ _ _ u l

/-- The normalized maxima, in the last 64 columns of the block. -/
theorem out1_high (hs : Sorted id (· ≥ ·)) (h : Rows1 V c id f) (t : Fin cfg1.N) (u : Fin 64) (l : ℕ) (hl : l < 1280) :
    out1 V c t (ix2 (bw l hl) ⟨64 + u.val, by omega⟩) = affine (in1_2 V c t (ix2 u 0)) (in1_2 V c t (ix2 u 1))
      (in1_3 V c t (ix2 u 0)) (in1_4 V c t (ix2 u 0)) (upTo id (f u) (1280 * t.val + l)) :=
  (bwdOut_high _ _ _ _ _ _ _ u (bw l hl)).trans (congrArg _ (max1 hs h t (carry1 hs h _ _) u l hl))

end region1

end Cert.KernelIdeal.Own
-- ==== Proof.KI.Windows.lean ====
/- The blocks the two regions work on, read at an index of the arrays they are cut from. -/
module

public import proofs.«01_k».proof.Proof.KI.Fold
public import Idealize.ShloMosaic.Lib.Pipeline.ValueKit.Geometry

@[expose] public section

set_option maxRecDepth 16384

noncomputable section

namespace Cert.KernelIdeal.Own

open Idealize.ShloMosaic Idealize.ShloMosaic.Pipeline
open Cert.KernelIdeal.Gen Cert.Lanes Cert.Scan

/-- Which block of array 0 a step of the first region works on. -/
theorem index0_0 : ∀ t : Fin cfg0.N, win0_0.index t = ![t.val, 0, 0] := (by decide +kernel : ∀ t : Fin grid0.N, _)
/-- Which block of array 1 a step of the first region works on. -/
theorem index0_1 : ∀ t : Fin cfg0.N, win0_1.index t = ![t.val, 0] := (by decide +kernel : ∀ t : Fin grid0.N, _)
/-- Which block of array 2 a step of the first region works on. -/
theorem index0_2 : ∀ t : Fin cfg0.N, win0_2.index t = ![0, 0] := (by decide +kernel : ∀ t : Fin grid0.N, _)
/-- Which block of array 3 a step of the first region works on. -/
theorem index0_3 : ∀ t : Fin cfg0.N, win0_3.index t = ![t.val, 0, 0] := (by decide +kernel : ∀ t : Fin grid0.N, _)
/-- Which block of array 4 a step of the first region works on. -/
theorem index0_4 : ∀ t : Fin cfg0.N, win0_4.index t = ![0, 0] := (by decide +kernel : ∀ t : Fin grid0.N, _)
/-- Which block of array 0 a step of the second region works on. -/
theorem index1_0 : ∀ t : Fin cfg1.N, win1_0.index t = ![249 - t.val, 0, 0] := (by decide +kernel : ∀ t : Fin grid1.N, _)
/-- Which block of array 1 a step of the second region works on. -/
theorem index1_1 : ∀ t : Fin cfg1.N, win1_1.index t = ![249 - t.val, 0, 0] := (by decide +kernel : ∀ t : Fin grid1.N, _)
/-- Which block of array 2 a step of the second region works on. -/
theorem index1_2 : ∀ t : Fin cfg1.N, win1_2.index t = ![0, 0] := (by decide +kernel : ∀ t : Fin grid1.N, _)
/-- Which block of array 3 a step of the second region works on. -/
theorem index1_3 : ∀ t : Fin cfg1.N, win1_3.index t = ![0, 0] := (by decide +kernel : ∀ t : Fin grid1.N, _)
/-- Which block of array 4 a step of the second region works on. -/
theorem index1_4 : ∀ t : Fin cfg1.N, win1_4.index t = ![0, 0] := (by decide +kernel : ∀ t : Fin grid1.N, _)
/-- Which block of array 5 a step of the second region works on. -/
theorem index1_5 : ∀ t : Fin cfg1.N, win1_5.index t = ![249 - t.val, 0] := (by decide +kernel : ∀ t : Fin grid1.N, _)

section
variable (V : Entry Ideal) (c : Dev nD)

/-- The segment numbers of a step of the first region. -/
theorem in0_0_apply (t : Fin cfg0.N) (l : Fin 1280) (h : t.val < 250) :
    in0_0 V c t (ix3 0 0 l) = V c main_call0_v0 (ix3 ⟨t.val, h⟩ 0 l) := by
  refine congrArg (V c main_call0_v0) (?_ : (win0_0.blk t).view.emb (ix3 0 0 l) = _)
  blk_ext [index0_0]

/-- Its rows of features. -/
theorem in0_1_apply (t : Fin cfg0.N) (l : Fin 1280) (k : Fin 128) (h : 1280 * t.val + l.val < 320000) :
    in0_1 V c t (ix2 l k) = V c main_arg0 (ix2 ⟨1280 * t.val + l.val, h⟩ k) := by
  refine congrArg (V c main_arg0) (?_ : (win0_1.blk t).view.emb (ix2 l k) = _)
  blk_ext [index0_1]

/-- The weights, whole at every step. -/
theorem in0_2_apply (t : Fin cfg0.N) (k : Fin 128) (u : Fin 64) : in0_2 V c t (ix2 k u) = V c main_arg2 (ix2 k u) := by
  refine congrArg (V c main_arg2) (?_ : (win0_2.blk t).view.emb (ix2 k u) = _)
  blk_ext [index0_2]

/-- The segment numbers of a step of the second region, which goes from the last block back. -/
theorem in1_0_apply (t : Fin cfg1.N) (l : Fin 1280) :
    in1_0 V c t (ix3 0 0 l) = V c main_call0_v0 (ix3 ⟨249 - t.val, by omega⟩ 0 l) := by
  refine congrArg (V c main_call0_v0) (?_ : (win1_0.blk t).view.emb (ix3 0 0 l) = _)
  blk_ext [index1_0]

/-- Its block of what the first region wrote. -/
theorem in1_1_apply (t : Fin cfg1.N) (v : Fin 128) (l : Fin 1280) :
    in1_1 V c t (ix3 0 v l) = V c main_call0_v3_0 (ix3 ⟨249 - t.val, by omega⟩ v l) := by
  refine congrArg (V c main_call0_v3_0) (?_ : (win1_1.blk t).view.emb (ix3 0 v l) = _)
  blk_ext [index1_1]

/-- The sums, whole at every step. -/
theorem in1_2_apply (t : Fin cfg1.N) (u : Fin 64) (k : Fin 8) : in1_2 V c t (ix2 u k) = V c main_call0_v3_1 (ix2 u k) := by
  refine congrArg (V c main_call0_v3_1) (?_ : (win1_2.blk t).view.emb (ix2 u k) = _)
  blk_ext [index1_2]

/-- The scale, whole at every step. -/
theorem in1_3_apply (t : Fin cfg1.N) (u : Fin 64) : in1_3 V c t (ix2 u 0) = V c main_call0_v1 (ix2 u 0) := by
  refine congrArg (V c main_call0_v1) (?_ : (win1_3.blk t).view.emb (ix2 u 0) = _)
  blk_ext [index1_3]

/-- The shift, whole at every step. -/
theorem in1_4_apply (t : Fin cfg1.N) (u : Fin 64) : in1_4 V c t (ix2 u 0) = V c main_call0_v2 (ix2 u 0) := by
  refine congrArg (V c main_call0_v2) (?_ : (win1_4.blk t).view.emb (ix2 u 0) = _)
  blk_ext [index1_4]

end

end Cert.KernelIdeal.Own
-- ==== Proof.KI.Arrays.lean ====
/- The arrays the two regions leave, as functions of the blocks their steps write; and the arrays the host hands them. -/
module

public import proofs.«01_k».proof.Proof.KI.Windows
public import proofs.«01_k».proof.Proof.KI.Run
public import Idealize.ShloMosaic.Lib.StableHlo.RunRead

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)
open Cert.KernelIdeal.Gen
open Cert.Lanes Cert.Scan

section
variable (V : Entry Ideal) (c : Dev nD)

/-- The first region's block array: step `b`'s block at `b`. -/
def blocks0 (i : S250x128x1280.Idx) : EReal := out0 V c ⟨(i 0).val, steps0.symm ▸ (i 0).isLt⟩ (ix3 0 (i 1) (i 2))

/-- The second region's array: step `t`'s block at the rows of block `249 - t`. -/
def blocks1 (i : S320000x128.Idx) : EReal := out1 V c ⟨249 - (i 0).val / 1280, by rw [steps1]; omega⟩
  (ix2 ⟨(i 0).val % 1280, Nat.mod_lt _ (by omega)⟩ (i 1))

/-- A step's block read at an index of the whole array. -/
theorem out0_at (t : Fin cfg0.N) (y : S1x128x1280.Idx) (i : S250x128x1280.Idx)
    (h0 : (i 0).val = t.val) (h1 : (i 1).val = (y 1).val) (h2 : (i 2).val = (y 2).val) :
    out0 V c t y = blocks0 V c i := by
  unfold blocks0
  rw [show (⟨(i 0).val, steps0.symm ▸ (i 0).isLt⟩ : Fin cfg0.N) = t from Fin.ext h0]
  refine congrArg (out0 V c t) (funext fun a => ?_)
  match a with
  | 0 => exact Subsingleton.elim (α := Fin 1) _ _
  | 1 => exact Fin.ext h1.symm
  | 2 => exact Fin.ext h2.symm

/-- Where an element of a step's block lies in the first region's block array. -/
theorem emb0_3 (t : Fin cfg0.N) (y : S1x128x1280.Idx) (i : S250x128x1280.Idx) (e : (win0_3.blk t).view.emb y = i) :
    (i 0).val = t.val ∧ (i 1).val = (y 1).val ∧ (i 2).val = (y 2).val := by
  have h : (y 0).val < 1 := (y 0).isLt
  subst e
  refine ⟨?_, ?_, ?_⟩
  · blk_simp [index0_3]
  · blk_simp [index0_3]
  · blk_simp [index0_3]

/-- The first region leaves its blocks. -/
theorem array0_3 : (dat0 V c).arrAt 3 cfg0.N = blocks0 V c := by
  refine (dat0 V c).arrAt_eq_of_covers 3 (blocks0 V c) (by decide +kernel) fun t hf y => ?_
  have e := emb0_3 t y _ rfl
  refine Eq.trans ?_ (out0_at V c t y ((win0_3.blk t).view.emb y) e.1 e.2.1 e.2.2)
  rw [after0_3]
  rfl

/-- The carried values depend on the step alone. -/
theorem state0_congr {n k : ℕ} (e : n = k) (h : n ≤ cfg0.N) (h' : k ≤ cfg0.N) : state0 V c n h = state0 V c k h' := by
  subst e; rfl

/-- The sums the first region leaves. -/
theorem array0_4 : (dat0 V c).arrAt 4 cfg0.N = (state0 V c 250 (le_of_eq steps0.symm)).1 := by
  obtain ⟨t, ht, hw⟩ : ∃ t : Fin cfg0.N, t.val + 1 = 250 ∧ (cfg0.win 4).WholeAt t :=
    ⟨⟨249, by rw [steps0]; omega⟩, rfl, by decide +kernel⟩
  refine (dat0 V c).arrAt_eq_of_after_last 4 t hw _ fun j => ?_
  rw [after0_4, state0_congr V c ht _ (le_of_eq steps0.symm)]
  rfl

/-- A step's block read at an index of the whole array. -/
theorem out1_at (t : Fin cfg1.N) (y : S1280x128.Idx) (i : S320000x128.Idx)
    (h0 : (i 0).val = 1280 * (249 - t.val) + (y 0).val) (h1 : (i 1).val = (y 1).val) :
    out1 V c t y = blocks1 V c i := by
  unfold blocks1
  have hy : (y 0).val < 1280 := (y 0).isLt
  have ht : t.val < 250 := steps1 ▸ t.isLt
  rw [show (⟨249 - (i 0).val / 1280, by rw [steps1]; omega⟩ : Fin cfg1.N) = t from Fin.ext (by change 249 - (i 0).val / 1280 = t.val; omega)]
  refine congrArg (out1 V c t) (funext fun a => ?_)
  match a with
  | 0 => exact Fin.ext (by change (y 0).val = (i 0).val % 1280; omega)
  | 1 => exact Fin.ext h1.symm

/-- Where an element of a step's block lies in the second region's array. -/
theorem emb1_5 (t : Fin cfg1.N) (y : S1280x128.Idx) (i : S320000x128.Idx) (e : (win1_5.blk t).view.emb y = i) :
    (i 0).val = 1280 * (249 - t.val) + (y 0).val ∧ (i 1).val = (y 1).val := by
  subst e
  refine ⟨?_, ?_⟩
  · blk_simp [index1_5]
    simp
    omega
  · blk_simp [index1_5]

/-- The second region leaves its blocks. -/
theorem array1_5 : (dat1 V c).arrAt 5 cfg1.N = blocks1 V c := by
  refine (dat1 V c).arrAt_eq_of_covers 5 (blocks1 V c) (by decide +kernel) fun t hf y => ?_
  have e := emb1_5 t y _ rfl
  refine Eq.trans ?_ (out1_at V c t y ((win1_5.blk t).view.emb y) e.1 e.2)
  rw [after1_5]
  rfl

end

section
variable (m : (ℓ : Loc nD τ sig) → Buf (Elt Ideal) ℓ) (c : Dev nD)

/-- The host cuts the segment numbers into blocks. -/
theorem host0 : entry0 m c main_call0_v0 = shapeCast S250x1x1280 (m ((c : Thread nD τ).loc main_arg1)) shapeCasts_S320000_S250x1x1280 := by
  unfold entry0 V1
  after_reads_simp
  rfl
/-- The host makes the scale a column. -/
theorem host1 : entry0 m c main_call0_v1 = shapeCast S64x1 (m ((c : Thread nD τ).loc main_arg3)) shapeCasts_S64_S64x1 := by
  unfold entry0 V1
  after_reads_simp
  rfl
/-- The host makes the shift a column. -/
theorem host2 : entry0 m c main_call0_v2 = shapeCast S64x1 (m ((c : Thread nD τ).loc main_arg4)) shapeCasts_S64_S64x1 := by
  unfold entry0 V1
  after_reads_simp
  rfl
/-- What the host does not write is as it was. -/
theorem host_arg (r : Ref sig .tc) (h : r ∉ hostOps0_W) : entry0 m c r = m ((c : Thread nD τ).loc r) := V1_of m c r h

/-- A segment number of a block. -/
theorem host0_apply (b : Fin 250) (l : Fin 1280) (h : 1280 * b.val + l.val < 320000) :
    entry0 m c main_call0_v0 (ix3 b 0 l) = m ((c : Thread nD τ).loc main_arg1) (ix1 ⟨1280 * b.val + l.val, h⟩) := by
  rw [host0]
  refine shapeCast_apply (s := S320000) (t := S250x1x1280) _ _ _ _ ?_
  rw [Shape.rowMajor_val_one, Shape.rowMajor_val_three]
  change 1280 * b.val + l.val = (b.val * 1 + 0) * 1280 + l.val
  omega
/-- An element of the scale. -/
theorem host1_apply (u : Fin 64) :
    entry0 m c main_call0_v1 (ix2 u 0) = m ((c : Thread nD τ).loc main_arg3) (ix1 u) := by
  rw [host1]
  refine shapeCast_apply (s := S64) (t := S64x1) _ _ _ _ ?_
  rw [Shape.rowMajor_val_one, Shape.rowMajor_val_two]
  change u.val = u.val * 1 + 0
  omega
/-- An element of the shift. -/
theorem host2_apply (u : Fin 64) :
    entry0 m c main_call0_v2 (ix2 u 0) = m ((c : Thread nD τ).loc main_arg4) (ix1 u) := by
  rw [host2]
  refine shapeCast_apply (s := S64) (t := S64x1) _ _ _ _ ?_
  rw [Shape.rowMajor_val_one, Shape.rowMajor_val_two]
  change u.val = u.val * 1 + 0
  omega

end

end Cert.KernelIdeal.Own
-- ==== Proof.Points.lean ====
/- The problem's quantities, row by row: the segment numbers, the projected features, their sums. -/
module

public import proofs.«01_k».proof.Proof.Scan
public import Idealize.ShloMosaic.Lib.Pointwise

@[expose] public section

noncomputable section

namespace Cert.Points

open Idealize.ShloMosaic

/-- The segment number of row `r`. -/
def ids (a : (⟨1, ![320000]⟩ : Shape).Idx → BitVec 32) (r : ℕ) : BitVec 32 :=
  if h : r < 320000 then a (ix1 ⟨r, h⟩) else 0#32

/-- The projection of row `r` on unit `u`. -/
def lin (x : (⟨2, ![320000, 128]⟩ : Shape).Idx → EReal) (w : (⟨2, ![128, 64]⟩ : Shape).Idx → EReal) (u : Fin 64) (r : ℕ) : EReal :=
  if h : r < 320000 then ∑ k : Fin 128, w (ix2 k u) * x (ix2 ⟨r, h⟩ k) else 0

/-- The sum over all rows. -/
def total (f : ℕ → EReal) : EReal := ∑ r ∈ Finset.range 320000, f r

/-- The segment number of a row that exists. -/
theorem ids_of_lt (a : (⟨1, ![320000]⟩ : Shape).Idx → BitVec 32) (r : ℕ) (h : r < 320000) : ids a r = a (ix1 ⟨r, h⟩) := dif_pos h

/-- The projection of a row that exists. -/
theorem lin_of_lt (x : (⟨2, ![320000, 128]⟩ : Shape).Idx → EReal) (w : (⟨2, ![128, 64]⟩ : Shape).Idx → EReal) (u : Fin 64) (r : ℕ)
    (h : r < 320000) : lin x w u r = ∑ k : Fin 128, w (ix2 k u) * x (ix2 ⟨r, h⟩ k) := dif_pos h

end Cert.Points
-- ==== Proof.KI.Value.lean ====
/- The idealized kernel's result, element by element, in terms of its arguments. -/
module

public import proofs.«01_k».proof.Proof.KI.Arrays
public import proofs.«01_k».proof.Proof.Points

@[expose] public section

set_option maxRecDepth 16384

noncomputable section

namespace Cert.KernelIdeal.Own

open Idealize.ShloMosaic Idealize.ShloMosaic.TcCoe
open Cert.KernelIdeal.Gen Cert.Lanes Cert.Scan Cert.Points

variable (m : (ℓ : Loc nD τ sig) → Buf (Elt Ideal) ℓ) (c : Dev nD)

/-- The features of device `c`. -/
abbrev features : Vec Ideal S320000x128 .f32 := m ((c : Thread nD τ).loc main_arg0)
/-- Its segment numbers, as an array. -/
abbrev numbers : Vec Ideal S320000 .i32 := m ((c : Thread nD τ).loc main_arg1)
/-- Its weights. -/
abbrev weights : Vec Ideal S128x64 .f32 := m ((c : Thread nD τ).loc main_arg2)
/-- Its scale. -/
abbrev gamma : Vec Ideal S64 .f32 := m ((c : Thread nD τ).loc main_arg3)
/-- Its shift. -/
abbrev beta : Vec Ideal S64 .f32 := m ((c : Thread nD τ).loc main_arg4)

/-- The segment number of row `r`. -/
abbrev id (r : ℕ) : BitVec 32 := ids (numbers m c) r
/-- The projection of row `r` on unit `u`. -/
abbrev X (u : Fin 64) (r : ℕ) : EReal := lin (features m c) (weights m c) u r

/-- The first region's blocks are consecutive pieces of the rows. -/
theorem rows0 : Rows0 (entry0 m) c (id m c) (X m c) where
  ids t l hl := by
    have ht : t.val < 250 := steps0 ▸ t.isLt
    refine (in0_0_apply (entry0 m) c t ⟨l, hl⟩ ht).trans ?_
    refine (host0_apply m c ⟨t.val, ht⟩ ⟨l, hl⟩ (by change 1280 * t.val + l < _; omega)).trans ?_
    exact (ids_of_lt (numbers m c) (1280 * t.val + l) _).symm
  rows t u l hl := by
    have ht : t.val < 250 := steps0 ▸ t.isLt
    have h : 1280 * t.val + l < 320000 := by omega
    refine (fwdX_apply _ _ u ⟨l, hl⟩).trans (Eq.trans ?_ (lin_of_lt (features m c) (weights m c) u (1280 * t.val + l) h).symm)
    refine Finset.sum_congr rfl fun k _ => congrArg₂ (· * ·) ?_ ?_
    · refine (in0_2_apply (entry0 m) c t k u).trans ?_
      rw [host_arg m c main_arg2 (by decide)]
    · refine (in0_1_apply (entry0 m) c t ⟨l, hl⟩ k h).trans ?_
      rw [host_arg m c main_arg0 (by decide)]

/-- The second region finds the segment numbers as the first did. -/
theorem found0 : entry1 m c main_call0_v0 = entry0 m c main_call0_v0 := mid_keeps m c main_call0_v0 (by decide)
/-- It finds the scale as the first did. -/
theorem found1 : entry1 m c main_call0_v1 = entry0 m c main_call0_v1 := mid_keeps m c main_call0_v1 (by decide)
/-- It finds the shift as the first did. -/
theorem found2 : entry1 m c main_call0_v2 = entry0 m c main_call0_v2 := mid_keeps m c main_call0_v2 (by decide)
/-- It finds the first region's blocks. -/
theorem found3 : entry1 m c main_call0_v3_0 = blocks0 (entry0 m) c := (left0 m c 3).symm.trans (array0_3 (entry0 m) c)
/-- It finds the first region's sums. -/
theorem found4 : entry1 m c main_call0_v3_1 = (state0 (entry0 m) c 250 (le_of_eq steps0.symm)).1 :=
  (left0 m c 4).symm.trans (array0_4 (entry0 m) c)

/-- The first 64 rows of the first region's blocks: the projected rows. -/
theorem blocks0_low (b : Fin 250) (u : Fin 64) (l : Fin 1280) :
    blocks0 (entry0 m) c (ix3 b ⟨u.val, by omega⟩ l) = X m c u (1280 * b.val + l.val) :=
  out0_low (rows0 m c) ⟨b.val, steps0.symm ▸ b.isLt⟩ u l.val l.isLt

/-- The last 64 rows: the running maxima. -/
theorem blocks0_high (hs : Sorted (id m c) (· ≤ ·)) (b : Fin 250) (u : Fin 64) (l : Fin 1280) :
    blocks0 (entry0 m) c (ix3 b ⟨64 + u.val, by omega⟩ l) = upTo (id m c) (X m c u) (1280 * b.val + l.val) :=
  out0_high hs (rows0 m c) ⟨b.val, steps0.symm ▸ b.isLt⟩ u l.val l.isLt

/-- The segment numbers, taken from the last row back. -/
abbrev idRev (i : ℕ) : BitVec 32 := id m c (320000 - 1 - i)
/-- The running maxima, taken from the last row back. -/
abbrev XRev (u : Fin 64) (i : ℕ) : EReal := upTo (id m c) (X m c u) (320000 - 1 - i)

/-- The second region's blocks are consecutive pieces of the rows taken from the last one back. -/
theorem rows1 (hs : Sorted (id m c) (· ≤ ·)) : Rows1 (entry1 m) c (idRev m c) (XRev m c) where
  ids t l hl := by
    have ht : t.val < 250 := steps1 ▸ t.isLt
    refine (in1_0_apply (entry1 m) c t (bw l hl)).trans ?_
    rw [found0]
    refine (host0_apply m c ⟨249 - t.val, by omega⟩ (bw l hl) (by change 1280 * (249 - t.val) + (1279 - l) < _; omega)).trans ?_
    refine (ids_of_lt (numbers m c) _ _).symm.trans (congrArg (ids (numbers m c)) ?_)
    change 1280 * (249 - t.val) + (1279 - l) = 320000 - 1 - (1280 * t.val + l)
    omega
  rows t u l hl := by
    have ht : t.val < 250 := steps1 ▸ t.isLt
    refine (bwdF_apply _ u (bw l hl)).trans ?_
    refine (in1_1_apply (entry1 m) c t ⟨64 + u.val, by omega⟩ (bw l hl)).trans ?_
    rw [found3]
    refine (blocks0_high m c hs ⟨249 - t.val, by omega⟩ u (bw l hl)).trans (congrArg (upTo (id m c) (X m c u)) ?_)
    change 1280 * (249 - t.val) + (1279 - l) = 320000 - 1 - (1280 * t.val + l)
    omega

/-- Taken from the last row back the segment numbers are sorted downwards. -/
theorem sorted_rev (hs : Sorted (id m c) (· ≤ ·)) : Sorted (idRev m c) (· ≥ ·) where
  together := hs.together.rev
  order i j hij hj := hs.order _ _ (by omega) (by omega)
  proper i hi := hs.proper _ (by omega)

/-- The affine map of the batch normalization, for unit `u`, with the sums the first region leaves. -/
abbrev norm (u : Fin 64) (v : EReal) : EReal :=
  affine (total (X m c u)) (total fun r => X m c u r * X m c u r) (gamma m c (ix1 u)) (beta m c (ix1 u)) v

/-- A step of the second region normalizes with the sums over all rows. -/
theorem norm_eq (hs : Sorted (id m c) (· ≤ ·)) (t : Fin cfg1.N) (u : Fin 64) (v : EReal) :
    affine (in1_2 (entry1 m) c t (ix2 u 0)) (in1_2 (entry1 m) c t (ix2 u 1)) (in1_3 (entry1 m) c t (ix2 u 0))
      (in1_4 (entry1 m) c t (ix2 u 0)) v = norm m c u v := by
  have hc := carry0 hs (rows0 m c) 250 (le_of_eq steps0.symm)
  have e0 : in1_2 (entry1 m) c t (ix2 u 0) = total (X m c u) := by
    refine (in1_2_apply (entry1 m) c t u 0).trans ?_
    rw [found4]
    exact hc.sum u
  have e1 : in1_2 (entry1 m) c t (ix2 u 1) = total fun r => X m c u r * X m c u r := by
    refine (in1_2_apply (entry1 m) c t u 1).trans ?_
    rw [found4]
    exact hc.sq u
  have e2 : in1_3 (entry1 m) c t (ix2 u 0) = gamma m c (ix1 u) := by
    refine (in1_3_apply (entry1 m) c t u).trans ?_
    rw [found1]
    exact host1_apply m c u
  have e3 : in1_4 (entry1 m) c t (ix2 u 0) = beta m c (ix1 u) := by
    refine (in1_4_apply (entry1 m) c t u).trans ?_
    rw [found2]
    exact host2_apply m c u
  rw [e0, e1, e2, e3]

/-- Left columns: the row's own projection, normalized. -/
theorem result_low (hs : Sorted (id m c) (· ≤ ·)) (r : Fin 320000) (u : Fin 64) :
    (result m c : S320000x128.Idx → EReal) (ix2 r ⟨u.val, by omega⟩) = norm m c u (X m c u r.val) := by
  have hr := r.isLt
  unfold result
  rw [array1_5]
  refine (out1_low ⟨249 - r.val / 1280, by rw [steps1]; omega⟩ u ⟨r.val % 1280, Nat.mod_lt _ (by omega)⟩).trans ?_
  refine (norm_eq m c hs _ u _).trans (congrArg (norm m c u) ?_)
  refine (in1_1_apply (entry1 m) c _ _ _).trans ?_
  rw [found3]
  refine (blocks0_low m c _ u _).trans (congrArg (X m c u) ?_)
  change 1280 * (249 - (249 - r.val / 1280)) + r.val % 1280 = r.val
  omega

/-- Right columns: the largest projection of the row's segment, normalized. -/
theorem result_high (hs : Sorted (id m c) (· ≤ ·)) (r : Fin 320000) (u : Fin 64) :
    (result m c : S320000x128.Idx → EReal) (ix2 r ⟨64 + u.val, by omega⟩)
      = norm m c u (whole (id m c) (X m c u) 320000 r.val) := by
  have hr := r.isLt
  unfold result
  rw [array1_5]
  have e : (⟨r.val % 1280, Nat.mod_lt _ (by omega)⟩ : Fin 1280) = bw (1279 - r.val % 1280) (by omega) :=
    Fin.ext (by change r.val % 1280 = 1279 - (1279 - r.val % 1280); omega)
  change out1 (entry1 m) c ⟨249 - r.val / 1280, by rw [steps1]; omega⟩
    (ix2 ⟨r.val % 1280, Nat.mod_lt _ (by omega)⟩ ⟨64 + u.val, by omega⟩) = _
  rw [e]
  refine (out1_high (sorted_rev m c hs) (rows1 m c hs) _ u (1279 - r.val % 1280) (by omega)).trans ?_
  refine (norm_eq m c hs _ u _).trans (congrArg (norm m c u) ?_)
  refine (upTo_rev (X m c u) 320000 _ (by change 1280 * (249 - r.val / 1280) + (1279 - r.val % 1280) < _; omega)).trans ?_
  refine congrArg (whole (id m c) (X m c u) 320000) ?_
  change 320000 - 1 - (1280 * (249 - r.val / 1280) + (1279 - r.val % 1280)) = r.val
  omega

end Cert.KernelIdeal.Own
-- ==== Proof.Algebra.lean ====
/- The batch normalization: the kernel's scale and shift are the reference's, and it keeps the order of numbers. -/
module

public import proofs.«01_k».proof.Proof.KI.Read
public import proofs.«01_k».proof.Proof.Points
public import Mathlib.Tactic.FieldSimp
public import Mathlib.Tactic.Positivity
public import Mathlib.Tactic.Linarith

@[expose] public section

noncomputable section

namespace Cert.Algebra

open Idealize.ShloMosaic Cert.KernelIdeal.Own Cert.Points Cert.Scan

/-- The number of rows, as the programs write it. -/
abbrev count : EReal := Ideal.ofBits .f32 0x489C4000#32
/-- The number added to the variance, as the programs write it. -/
abbrev small : EReal := Ideal.ofBits .f32 0x3A83126F#32

/-- The number of rows is 320000. -/
theorem count_eq : count = ((320000 : ℝ) : EReal) := by
  unfold count
  simp [Ideal.ofBits, Ideal.ieee]
  rw [← EReal.coe_mul]
  norm_num

/-- The number added to the variance is real and positive. -/
theorem small_eq : ∃ e : ℝ, 0 < e ∧ small = e := by
  refine ⟨8589935 / 2 ^ 33, by norm_num, ?_⟩
  unfold small
  simp [Ideal.ofBits, Ideal.ieee]
  rw [← EReal.coe_mul]
  norm_num

/-- The normalization as the reference writes it, from the sum of the rows and the sum of the squared deviations. -/
def plain (a0 d g b v : EReal) : EReal :=
  max (Ideal.div (v - Ideal.div a0 count) (Ideal.sqrt (Ideal.div d count + small)) * g + b) 0

/-- The kernel's normalization, written out. -/
theorem affine_def (a0 a1 g b v : EReal) : affine a0 a1 g b v
    = max (v * (g * Ideal.rsqrt (Ideal.div a1 count - Ideal.div a0 count * Ideal.div a0 count + small))
        + (b - Ideal.div a0 count * (g * Ideal.rsqrt (Ideal.div a1 count - Ideal.div a0 count * Ideal.div a0 count + small)))) 0 := rfl

/-- A sum of real numbers, taken in the extended ones. -/
theorem sum_coe {ι : Type} (s : Finset ι) (x : ι → ℝ) : ∑ r ∈ s, (x r : EReal) = ((∑ r ∈ s, x r : ℝ) : EReal) := by
  classical
  induction s using Finset.induction_on with
  | empty => simp
  | insert a s ha ih => rw [Finset.sum_insert ha, Finset.sum_insert ha, ih, EReal.coe_add]

/-- The sum over all rows of real numbers is real. -/
theorem total_coe (x : ℕ → ℝ) : total (fun r => (x r : EReal)) = ((∑ r ∈ Finset.range 320000, x r : ℝ) : EReal) := sum_coe _ x

/-- A real number divided by the number of rows. -/
theorem div_count (a : ℝ) : Ideal.div (a : EReal) count = ((a / 320000 : ℝ) : EReal) := by
  rw [count_eq, Ideal.div_coe (by norm_num), ← EReal.coe_mul]
  congr 1
  ring

/-- The mean of the squares less the square of the mean is the mean of the squared deviations. -/
theorem variance (x : ℕ → ℝ) (n : ℕ) (N : ℝ) (hN : N = n) (h0 : N ≠ 0) :
    (∑ r ∈ Finset.range n, x r * x r) / N - (∑ r ∈ Finset.range n, x r) / N * ((∑ r ∈ Finset.range n, x r) / N)
      = (∑ r ∈ Finset.range n, (x r - (∑ q ∈ Finset.range n, x q) / N) * (x r - (∑ q ∈ Finset.range n, x q) / N)) / N := by
  generalize hS : ∑ r ∈ Finset.range n, x r = S
  have e : ∑ r ∈ Finset.range n, (x r - S / N) * (x r - S / N)
      = ∑ r ∈ Finset.range n, x r * x r - 2 * (S / N) * S + N * (S / N * (S / N)) := by
    have : ∀ r, (x r - S / N) * (x r - S / N) = x r * x r - 2 * (S / N) * x r + S / N * (S / N) := fun r => by ring
    rw [Finset.sum_congr rfl fun r _ => this r, Finset.sum_add_distrib, Finset.sum_sub_distrib, ← Finset.mul_sum, hS,
      Finset.sum_const, Finset.card_range, nsmul_eq_mul, ← hN]
  rw [e]
  field_simp
  ring

section Norm
variable (x : ℕ → ℝ) (g : ℝ) (b : EReal)

/-- The mean. -/
def mean : ℝ := (∑ r ∈ Finset.range 320000, x r) / 320000
/-- The mean of the squared deviations. -/
def spread : ℝ := (∑ r ∈ Finset.range 320000, (x r - mean x) * (x r - mean x)) / 320000

/-- The mean of the squared deviations is not negative. -/
theorem spread_nonneg : 0 ≤ spread x :=
  div_nonneg (Finset.sum_nonneg fun r _ => mul_self_nonneg _) (by norm_num)

/-- On real rows both normalizations are the same line with a positive slope times the scale, then the shift and the relu. -/
theorem affine_real : ∃ k : ℝ, 0 < k ∧ ∀ v : ℝ,
    affine (total fun r => (x r : EReal)) (total fun r => (x r : EReal) * (x r : EReal)) (g : EReal) b (v : EReal)
        = max ((((v - mean x) * k * g : ℝ) : EReal) + b) 0
      ∧ plain (total fun r => (x r : EReal))
          (total fun r => ((x r : EReal) - Ideal.div (total fun q => (x q : EReal)) count)
            * ((x r : EReal) - Ideal.div (total fun q => (x q : EReal)) count)) (g : EReal) b (v : EReal)
        = max ((((v - mean x) * k * g : ℝ) : EReal) + b) 0 := by
  obtain ⟨e, he, hs⟩ := small_eq
  have hp : 0 < spread x + e := by have := spread_nonneg x; linarith
  have hq : 0 < Real.sqrt (spread x + e) := Real.sqrt_pos.2 hp
  have e0 : Ideal.div (total fun r => (x r : EReal)) count = ((mean x : ℝ) : EReal) := by
    rw [total_coe, div_count]; rfl
  have e1 : Ideal.div (total fun r => (x r : EReal) * (x r : EReal)) count
      - ((mean x : ℝ) : EReal) * ((mean x : ℝ) : EReal) = ((spread x : ℝ) : EReal) := by
    rw [show (fun r => (x r : EReal) * (x r : EReal)) = fun r => ((x r * x r : ℝ) : EReal) from
      funext fun r => (EReal.coe_mul _ _).symm, total_coe, div_count, ← EReal.coe_mul, ← EReal.coe_sub]
    exact congrArg _ (variance x 320000 320000 (by norm_num) (by norm_num))
  have e2 : Ideal.div (total fun r => ((x r : EReal) - ((mean x : ℝ) : EReal)) * ((x r : EReal) - ((mean x : ℝ) : EReal))) count
      = ((spread x : ℝ) : EReal) := by
    rw [show (fun r => ((x r : EReal) - ((mean x : ℝ) : EReal)) * ((x r : EReal) - ((mean x : ℝ) : EReal)))
        = fun r => (((x r - mean x) * (x r - mean x) : ℝ) : EReal) from
      funext fun r => by rw [← EReal.coe_sub, ← EReal.coe_mul], total_coe, div_count]
    rfl
  refine ⟨(Real.sqrt (spread x + e))⁻¹, inv_pos.2 hq, fun v => ⟨?_, ?_⟩⟩
  · rw [affine_def, e0, e1, hs, ← EReal.coe_add, Ideal.rsqrt_coe, if_neg (not_lt.2 hp.le), if_neg hp.ne']
    generalize (Real.sqrt (spread x + e))⁻¹ = k
    congr 1
    rw [← EReal.coe_mul, ← EReal.coe_mul, ← EReal.coe_mul]
    induction b with
    | bot => simp
    | top => rw [EReal.top_sub_coe, EReal.coe_add_top, EReal.coe_add_top]
    | coe b =>
      norm_cast
      ring
  · unfold plain
    rw [e0, e2, hs, ← EReal.coe_add, Ideal.sqrt_coe, if_neg (not_lt.2 hp.le), ← EReal.coe_sub, Ideal.div_coe hq.ne',
      ← EReal.coe_mul, ← EReal.coe_mul, one_div]

/-- The kernel's normalization is the reference's. -/
theorem affine_eq_plain (v : ℝ) :
    affine (total fun r => (x r : EReal)) (total fun r => (x r : EReal) * (x r : EReal)) (g : EReal) b (v : EReal)
      = plain (total fun r => (x r : EReal))
          (total fun r => ((x r : EReal) - Ideal.div (total fun q => (x q : EReal)) count)
            * ((x r : EReal) - Ideal.div (total fun q => (x q : EReal)) count)) (g : EReal) b (v : EReal) := by
  obtain ⟨k, _, h⟩ := affine_real x g b
  exact (h v).1.trans (h v).2.symm

/-- With a scale that is not negative the normalization keeps the order. -/
theorem affine_mono (hg : 0 ≤ g) (v w : ℝ) (hvw : v ≤ w) :
    affine (total fun r => (x r : EReal)) (total fun r => (x r : EReal) * (x r : EReal)) (g : EReal) b (v : EReal)
      ≤ affine (total fun r => (x r : EReal)) (total fun r => (x r : EReal) * (x r : EReal)) (g : EReal) b (w : EReal) := by
  obtain ⟨k, hk, h⟩ := affine_real x g b
  rw [(h v).1, (h w).1]
  refine max_le_max (add_le_add (EReal.coe_le_coe_iff.2 ?_) le_rfl) le_rfl
  exact mul_le_mul_of_nonneg_right (mul_le_mul_of_nonneg_right (by linarith) hk.le) hg

/-- A map that keeps the order of some numbers takes their maximum to the maximum of what it takes them to. -/
theorem map_sup {f : EReal → EReal} (s : Finset ℕ) (hs : s.Nonempty) (y : ℕ → EReal)
    (hf : ∀ i j, y i ≤ y j → f (y i) ≤ f (y j)) : f (s.sup y) = s.sup fun i => f (y i) := by
  obtain ⟨j, hj, e⟩ := Finset.exists_mem_eq_sup s hs y
  rw [e]
  exact le_antisymm (Finset.le_sup (f := fun i => f (y i)) hj) (Finset.sup_le fun i hi => hf i j (e ▸ Finset.le_sup hi))

/-- The normalization of a segment's maximum is the maximum of the normalized. -/
theorem affine_whole (hg : 0 ≤ g) (id : ℕ → BitVec 32) (r : ℕ) (hr : r < 320000) :
    affine (total fun r => (x r : EReal)) (total fun r => (x r : EReal) * (x r : EReal)) (g : EReal) b
        (whole id (fun r => (x r : EReal)) 320000 r)
      = whole id (fun i => affine (total fun r => (x r : EReal)) (total fun r => (x r : EReal) * (x r : EReal)) (g : EReal) b
          (x i : EReal)) 320000 r :=
  map_sup _ ⟨r, by simp [hr]⟩ _ fun i j h => affine_mono x g b hg _ _ (EReal.coe_le_coe_iff.1 h)

end Norm

end Cert.Algebra

end
-- ==== Proof.Ref.lean ====
/- The reference's result, element by element, in terms of its arguments. -/
module

public import proofs.«01_k».proof.Proof.Algebra
public import proofs.«01_k».proof.Proof.Gen.ReferenceIdeal.Read
public import Idealize.ShloMosaic.Lib.Pointwise
public import Idealize.ShloMosaic.Lib.Affine
public import Idealize.ShloMosaic.Lib.Routing.Ops

@[expose] public section

set_option maxRecDepth 16384

noncomputable section

namespace Cert.ReferenceIdeal.Own

open Idealize.ShloMosaic Cert.ReferenceIdeal Cert.ReferenceIdeal.Gen Cert.ReferenceIdeal.Read
open Cert.Points Cert.Scan Cert.Algebra

/-- The word of zero. -/
theorem zero_eq : Ideal.ofBits .f32 0x00000000#32 = 0 := by simp [Ideal.ofBits, Ideal.ieee]

/-- The word of minus infinity. -/
theorem bot_eq : Ideal.ofBits .f32 0xFF800000#32 = ⊥ := by simp [Ideal.ofBits, Ideal.ieee]

/-- The sum over all rows, indexed by bounded numbers. -/
theorem total_fin (f : ℕ → EReal) : total f = ∑ k : Fin 320000, f k.val := Finset.sum_range f

section Values
variable (x0 : S320000x128.Idx → EReal) (x1 : S320000.Idx → BitVec 32) (x2 : S128x64.Idx → EReal) (x3 x4 : S64.Idx → EReal)

/-- The mean of the rows. -/
def average (u : Fin 64) : EReal := Ideal.div (total (lin x0 x2 u)) count
/-- How far a row is from the mean. -/
def apart (u : Fin 64) (r : ℕ) : EReal := lin x0 x2 u r - average x0 x2 u

/-- The reference's normalization, for unit `u`. -/
def normed (u : Fin 64) (v : EReal) : EReal :=
  plain (total (lin x0 x2 u)) (total fun r => apart x0 x2 u r * apart x0 x2 u r) (x3 (ix1 u)) (x4 (ix1 u)) v

/-- The projection of a row. -/
theorem v0_at (i : S320000x64.Idx) : val_main_v0 (F := Ideal) x0 x2 i = lin x0 x2 (i 1) (i 0).val := by
  rw [val_main_v0_apply]
  refine Eq.trans (Finset.sum_congr rfl fun k _ => ?_) (lin_of_lt x0 x2 (i 1) (i 0).val (i 0).isLt).symm
  rw [mul_comm]
  refine congrArg₂ (· * ·) (congrArg x2 ?_) (congrArg x0 ?_)
  · funext a; match a with | ⟨0, _⟩ => rfl | ⟨1, _⟩ => rfl
  · funext a; match a with | ⟨0, _⟩ => rfl | ⟨1, _⟩ => rfl

/-- The mean. -/
theorem v3_at (j : S64.Idx) : val_main_v3 (F := Ideal) x0 x2 j = average x0 x2 (j 0) := by
  rw [val_main_v3_apply, val_main_v1_apply, val_main_v2_apply, val_main_cst_0_apply, val_main_cst_apply]
  refine congrArg₂ Ideal.div ?_ rfl
  refine (congrArg (· + _) zero_eq).trans ((zero_add _).trans ?_)
  rw [total_fin]
  exact Finset.sum_congr rfl fun k _ => v0_at x0 x2 _

/-- A row less the mean. -/
theorem v6_at (i : S320000x64.Idx) : val_main_v6 (F := Ideal) x0 x2 i = apart x0 x2 (i 1) (i 0).val := by
  rw [val_main_v6_apply, val_main_v5_apply, val_main_v4_apply, v0_at, v3_at]
  rfl

/-- A row less the mean, as the normalization uses it. -/
theorem v13_at (i : S320000x64.Idx) : val_main_v13 (F := Ideal) x0 x2 i = apart x0 x2 (i 1) (i 0).val := by
  rw [val_main_v13_apply, val_main_v12_apply, val_main_v11_apply, v0_at, v3_at]
  rfl

/-- The root of the variance. -/
theorem v16_at (j : S64.Idx) : val_main_v16 (F := Ideal) x0 x2 j
    = Ideal.sqrt (Ideal.div (total fun r => apart x0 x2 (j 0) r * apart x0 x2 (j 0) r) count + small) := by
  rw [val_main_v16_apply, val_main_v15_apply, val_main_v10_apply, val_main_v8_apply, val_main_v9_apply, val_main_cst_2_apply,
    val_main_cst_1_apply, val_main_v14_apply, val_main_cst_3_apply]
  refine congrArg Ideal.sqrt (congrArg₂ (· + ·) (congrArg₂ Ideal.div ?_ rfl) rfl)
  refine (congrArg (· + _) zero_eq).trans ((zero_add _).trans ?_)
  rw [total_fin]
  refine Finset.sum_congr rfl fun k _ => ?_
  rw [val_main_v7_apply, v6_at]
  rfl

/-- The normalized rows. -/
theorem v26_at (i : S320000x64.Idx) : val_main_v26 (F := Ideal) x0 x2 x3 x4 i
    = normed x0 x2 x3 x4 (i 1) (lin x0 x2 (i 1) (i 0).val) := by
  rw [val_main_v26_apply, val_main_v25_apply, val_main_v22_apply, val_main_v24_apply, val_main_v23_apply,
    val_main_v21_apply, val_main_v20_apply, val_main_v19_apply, val_main_v18_apply, val_main_v17_apply, v13_at, v16_at,
    val_main_call0_v0_apply, val_main_call0_cst_apply]
  refine congrArg₂ max (congrArg₂ (· + ·) (congrArg₂ (· * ·) rfl ?_) ?_) zero_eq
  · exact congrArg x3 (funext fun a => by match a with | ⟨0, _⟩ => rfl)
  · exact congrArg x4 (funext fun a => by match a with | ⟨0, _⟩ => rfl)

/-- A row as the reference's maximum sees it: the row itself where it is of the segment, and otherwise nothing. -/
theorem v34_at (b : Fin 10000) (k : Fin 320000) (u : Fin 64) : val_main_v34 (F := Ideal) x0 x1 x2 x3 x4 (ix3 b k u)
    = if ids x1 k.val = BitVec.ofNat 32 b.val then normed x0 x2 x3 x4 u (lin x0 x2 u k.val) else ⊥ := by
  rw [val_main_v34_apply, val_main_call1_v1_apply, val_main_call1_v2_apply, val_main_call1_v3_apply, val_main_v32_apply,
    val_main_v30_apply, val_main_v27_apply, val_main_v31_apply, val_main_v29_apply, val_main_v28_apply, val_main_v33_apply, v26_at,
    val_main_call1_v0_apply, val_main_cst_4_apply, ids_of_lt x1 k.val k.isLt]
  have e : idx_main_v27 (idx_main_v30 (idx_main_call1_v1 (ix3 b k u))) = ix1 k := funext fun a => by
    match a with | ⟨0, _⟩ => rfl
  rw [e]
  unfold Scalar.select
  refine if_congr IntOp.cmpi_eq rfl bot_eq

/-- A maximum over all rows that takes in only some of them. -/
theorem sup_where (n : ℕ) (p : ℕ → Prop) [DecidablePred p] (y : ℕ → EReal) :
    (Finset.univ : Finset (Fin n)).sup (fun k => if p k.val then y k.val else ⊥) = ((Finset.range n).filter p).sup y := by
  apply le_antisymm
  · refine Finset.sup_le fun k _ => ?_
    split
    next h => exact Finset.le_sup (f := y) (Finset.mem_filter.2 ⟨Finset.mem_range.2 k.isLt, h⟩)
    next => exact bot_le
  · refine Finset.sup_le fun i hi => ?_
    obtain ⟨h1, h2⟩ := Finset.mem_filter.1 hi
    refine le_trans (le_of_eq (if_pos h2).symm) (Finset.le_sup (f := fun k : Fin n => if p k.val then y k.val else ⊥)
      (Finset.mem_univ ⟨i, Finset.mem_range.1 h1⟩))

/-- The maxima of the segments. -/
theorem v35_at (b : Fin 10000) (u : Fin 64) : val_main_v35 (F := Ideal) x0 x1 x2 x3 x4 (ix2 b u)
    = ((Finset.range 320000).filter fun k => ids x1 k = BitVec.ofNat 32 b.val).sup fun k => normed x0 x2 x3 x4 u (lin x0 x2 u k) := by
  unfold val_main_v35
  have h := fun k => v34_at x0 x1 x2 x3 x4 b k u
  generalize val_main_v34 (F := Ideal) x0 x1 x2 x3 x4 = y at h
  rw [Ideal.maximumf_eq_max]
  rw [Host.reduce_eq_fold, Shape.ReducesTo.fold_fiber_r3_a1]
  rw [val_main_cst_5_apply]
  refine Eq.trans ?_ (sup_where 320000 _ _)
  refine (congrArg (fun z => Finset.fold max z _ _) bot_eq).trans ?_
  exact congrArg (Finset.fold max ⊥ · Finset.univ) (funext fun k => h k)

/-- The segment's maximum, given back to a row whose number names a segment. -/
theorem v42_at (r : Fin 320000) (u : Fin 64) (h0 : 0 ≤ (ids x1 r.val).toInt) (h1 : (ids x1 r.val).toInt < 10000) :
    val_main_v42 (F := Ideal) x0 x1 x2 x3 x4 (ix2 r u)
      = whole (ids x1) (fun k => normed x0 x2 x3 x4 u (lin x0 x2 u k)) 320000 r.val := by
  have hn : (ids x1 r.val).toNat < 10000 := by
    rw [BitVec.toInt_eq_toNat_cond] at h0 h1
    split at h0 <;> omega
  have e : BitVec.ofNat 32 (ids x1 r.val).toNat = ids x1 r.val := by simp
  unfold val_main_v42 whole
  refine (Routing.gather_row _ rfl rfl rfl rfl rfl _ _ r u ⟨(ids x1 r.val).toNat, hn⟩ ?_ (by norm_num)).trans ?_
  · refine Eq.trans ?_ e.symm
    rw [val_main_v41_apply, val_main_v40_apply, val_main_v37_apply, val_main_v36_apply, val_main_c_apply]
    have ei : idx_main_v41 (ValueIdx.ix2 r (0 : Fin 1)) = ix1 r := funext fun a => by match a with | ⟨0, _⟩ => rfl
    rw [ei]
    rw [ids_of_lt x1 r.val r.isLt] at h0 ⊢
    have hf : ¬ IntOp.cmpi .slt (x1 (ix1 r)) 0#32 = 1#1 := fun h => by
      have := IntOp.cmpi_slt.1 h
      rw [show (0#32 : BitVec 32).toInt = 0 from by decide] at this
      exact absurd h0 (not_le.2 this)
    unfold Scalar.select
    exact if_neg hf
  · refine (v35_at x0 x1 x2 x3 x4 ⟨(ids x1 r.val).toNat, hn⟩ u).trans ?_
    simp only [e]

/-- The first half of the result: the normalized rows. -/
theorem v43_low (r : Fin 320000) (u : Fin 64) :
    val_main_v43 (F := Ideal) x0 x1 x2 x3 x4 (ix2 r ⟨u.val, by omega⟩) = normed x0 x2 x3 x4 u (lin x0 x2 u r.val) := by
  unfold val_main_v43
  refine (concatenate_pair_apply_left (t := S320000x128) (s₁ := S320000x64) (s₂ := S320000x64) 1 _ _ _
    (ix2 r ⟨u.val, by omega⟩) rfl (ix2 r u)
    (fun b => by match b with | 0 => rfl | 1 => rfl)).trans ?_
  exact v26_at x0 x2 x3 x4 (ix2 r u)

/-- The second half of the result: the segments' maxima. -/
theorem v43_high (r : Fin 320000) (u : Fin 64) (h0 : 0 ≤ (ids x1 r.val).toInt) (h1 : (ids x1 r.val).toInt < 10000) :
    val_main_v43 (F := Ideal) x0 x1 x2 x3 x4 (ix2 r ⟨64 + u.val, by omega⟩)
      = whole (ids x1) (fun k => normed x0 x2 x3 x4 u (lin x0 x2 u k)) 320000 r.val := by
  unfold val_main_v43
  refine (concatenate_pair_apply_right (t := S320000x128) (s₁ := S320000x64) (s₂ := S320000x64) 1 _ _ _
    (ix2 r ⟨64 + u.val, by omega⟩) rfl rfl (ix2 r u)
    (fun b hb => by match b with | 0 => rfl | 1 => exact absurd rfl hb) (Nat.add_comm _ _)).trans ?_
  exact v42_at x0 x1 x2 x3 x4 r u h0 h1

end Values

end Cert.ReferenceIdeal.Own

end
-- ==== Proof.Pre.lean ====
/- What the precondition says of the arguments, element by element. -/
module

public import proofs.«01_k».proof.Proof.Points
public import proofs.«01_k».proof.Pre_well_formed
public import proofs.«01_k».proof.Proof.Gen.Pre_well_formed
public import Idealize.ShloMosaic.Lib.ReduceAll
public import Idealize.ShloMosaic.Lib.Pointwise
public import Idealize.ShloMosaic.Lib.Pipeline.Value
public import Idealize.ShloMosaic.PureOps.Ideal

@[expose] public section

noncomputable section

namespace Cert.Pre_well_formed.Own

open Idealize.ShloMosaic Cert.Pre_well_formed Cert.Points

/-- The arguments are well formed: features, weights and scales are real numbers, scales are not
    negative, and the segment numbers are sorted and name one of 10000 segments. -/
structure Good (x0 : S320000x128.Idx → EReal) (x1 : S320000.Idx → BitVec 32) (x2 : S128x64.Idx → EReal)
    (x3 : S64.Idx → EReal) : Prop where
  rows : ∀ i, ∃ a : ℝ, x0 i = a
  weights : ∀ i, ∃ a : ℝ, x2 i = a
  scale : ∀ i, ∃ a : ℝ, 0 ≤ a ∧ x3 i = a
  next : ∀ r, r + 1 < 320000 → (ids x1 r).toInt ≤ (ids x1 (r + 1)).toInt
  nonneg : ∀ r, r < 320000 → 0 ≤ (ids x1 r).toInt
  below : ∀ r, r < 320000 → (ids x1 r).toInt < 10000

/-- The binary32 number with the largest exponent and no fraction is infinity. -/
theorem inf_eq : Ideal.ofBits .f32 0x7F800000#32 = ⊤ := by simp [Ideal.ofBits, Ideal.ieee]

/-- A number whose absolute value is below infinity is real. -/
theorem real_of_lt (x : EReal) (h : Ideal.cmp .olt (max x (-x)) (Ideal.ofBits .f32 0x7F800000#32) = 1#1) : ∃ a : ℝ, x = a := by
  rw [inf_eq] at h
  have h' : max x (-x) < ⊤ := by
    by_contra hn
    simp [Ideal.cmp, hn] at h
  induction x with
  | bot => simp at h'
  | top => simp at h'
  | coe a => exact ⟨a, rfl⟩

/-- A number at least zero, from the comparison. -/
theorem nonneg_of_ge (x : EReal) (h : Ideal.cmp .oge x (Ideal.ofBits .f32 0#32) = 1#1) : 0 ≤ x := by
  have e : Ideal.ofBits .f32 0#32 = 0 := by simp [Ideal.ofBits, Ideal.ieee]
  rw [e] at h
  by_contra hn
  simp [Ideal.cmp, hn] at h

instance : Subsingleton S_.Idx := ⟨fun _ _ => funext fun a => a.elim0⟩

/-- The precondition, read at every element. -/
theorem good (x0 : S320000x128.Idx → EReal) (x1 : S320000.Idx → BitVec 32) (x2 : S128x64.Idx → EReal)
    (x3 x4 : S64.Idx → EReal) (h : fn (F := Ideal) x0 x1 x2 x3 x4 = fun _ => 1#1) : Good x0 x1 x2 x3 := by
  have h0 := congrFun h (fun a => a.elim0)
  obtain ⟨h0, hb⟩ := IntOp.andi_eq_one.1 h0
  obtain ⟨h0, hn⟩ := IntOp.andi_eq_one.1 h0
  obtain ⟨h0, hs⟩ := IntOp.andi_eq_one.1 h0
  obtain ⟨h0, hg⟩ := IntOp.andi_eq_one.1 h0
  obtain ⟨h0, hf⟩ := IntOp.andi_eq_one.1 h0
  obtain ⟨hx, hw⟩ := IntOp.andi_eq_one.1 h0
  have hx := Host.reduce_andi_all _ _ _ _ _ hx
  have hw := Host.reduce_andi_all _ _ _ _ _ hw
  have hf := Host.reduce_andi_all _ _ _ _ _ hf
  have hg := Host.reduce_andi_all _ _ _ _ _ hg
  have hs := Host.reduce_andi_all _ _ _ _ _ hs
  have hn := Host.reduce_andi_all _ _ _ _ _ hn
  have hb := Host.reduce_andi_all _ _ _ _ _ hb
  refine ⟨fun i => real_of_lt _ (hx i), fun i => real_of_lt _ (hw i), fun i => ?_, fun r hr => ?_, fun r hr => ?_, fun r hr => ?_⟩
  · obtain ⟨a, ha⟩ := real_of_lt _ (hf i)
    have h1 := nonneg_of_ge _ (hg i)
    rw [ha] at h1
    exact ⟨a, EReal.coe_nonneg.1 h1, ha⟩
  · have h1 := IntOp.cmpi_sle.1 (hs (ix1 ⟨r, by omega⟩))
    rw [ids_of_lt x1 r (by omega), ids_of_lt x1 (r + 1) hr]
    beta_reduce at h1
    rw [extractStridedSlice_apply ![0] x1 _ _ (ix1 ⟨r, by omega⟩) (fun a => by match a with | ⟨0, _⟩ => exact (Nat.zero_add _).symm),
      extractStridedSlice_apply ![1] x1 _ _ (ix1 ⟨r + 1, hr⟩) (fun a => by match a with | ⟨0, _⟩ => exact Nat.add_comm _ _)] at h1
    exact h1
  · have h1 := IntOp.cmpi_sge.1 (hn (ix1 ⟨r, hr⟩))
    rw [ids_of_lt x1 r hr]
    exact h1
  · have h1 := IntOp.cmpi_slt.1 (hb (ix1 ⟨r, hr⟩))
    rw [ids_of_lt x1 r hr]
    exact h1

end Cert.Pre_well_formed.Own

end
-- ==== Proof.Equal.lean ====
/- The kernel's result is the reference's, element by element, where the arguments are well formed. -/
module

public import proofs.«01_k».proof.Proof.KI.Value
public import proofs.«01_k».proof.Proof.Ref
public import proofs.«01_k».proof.Proof.Pre
public import proofs.«01_k».proof.Defs
public import proofs.«01_k».proof.Proof.KI.Run
public import proofs.«01_k».proof.Proof.Gen.ReferenceIdeal.Run

@[expose] public section

set_option maxRecDepth 16384

noncomputable section

namespace Cert.Equal

open Idealize.ShloMosaic Idealize.ShloMosaic.TcCoe
open Cert.Points Cert.Scan Cert.Algebra Cert.KernelIdeal.Own Cert.ReferenceIdeal.Own Cert.Pre_well_formed.Own

section Args
variable {x0 : Cert.KernelIdeal.S320000x128.Idx → EReal} {x1 : Cert.KernelIdeal.S320000.Idx → BitVec 32}
  {x2 : Cert.KernelIdeal.S128x64.Idx → EReal} {x3 : Cert.KernelIdeal.S64.Idx → EReal}

/-- Well-formed segment numbers are sorted. -/
theorem order (h : Good x0 x1 x2 x3) (i : ℕ) : ∀ j, i ≤ j → j < 320000 → (ids x1 i).toInt ≤ (ids x1 j).toInt := by
  intro j hij
  induction j, hij using Nat.le_induction with
  | base => exact fun _ => le_rfl
  | succ j _ ih => exact fun hj => (ih (by omega)).trans (h.next j hj)

/-- Well-formed segment numbers are sorted in the sense that the scans need. -/
theorem sorted (h : Good x0 x1 x2 x3) : Sorted (ids x1) (· ≤ ·) where
  together i j k hij hjk hk e := by
    have h1 := order h i j hij (by omega)
    have h2 := order h j k hjk hk
    rw [← e] at h2
    rw [← e]
    exact BitVec.eq_of_toInt_eq (le_antisymm h2 h1)
  order i j hij hj := order h i j hij hj
  proper i hi e := by
    have h1 := h.nonneg i hi
    rw [e] at h1
    exact absurd h1 (by decide)

/-- Well-formed rows have real projections. -/
theorem lin_real (h : Good x0 x1 x2 x3) (u : Fin 64) : ∃ x : ℕ → ℝ, lin x0 x2 u = fun r => (x r : EReal) := by
  choose a ha using h.rows
  choose w hw using h.weights
  refine ⟨fun r => if hr : r < 320000 then ∑ k : Fin 128, w (ix2 k u) * a (ix2 ⟨r, hr⟩ k) else 0, funext fun r => ?_⟩
  beta_reduce
  by_cases hr : r < 320000
  · rw [lin_of_lt x0 x2 u r hr, dif_pos hr, ← sum_coe]
    exact Finset.sum_congr rfl fun k _ => by rw [ha, hw, EReal.coe_mul]
  · rw [dif_neg hr]
    exact dif_neg hr

/-- The two normalizations agree on the rows, and on the segments' maxima. -/
theorem norm_row (h : Good x0 x1 x2 x3) (x4 : Cert.KernelIdeal.S64.Idx → EReal) (u : Fin 64) (r : ℕ) :
    affine (total (lin x0 x2 u)) (total fun r => lin x0 x2 u r * lin x0 x2 u r) (x3 (ix1 u)) (x4 (ix1 u)) (lin x0 x2 u r)
      = normed x0 x2 x3 x4 u (lin x0 x2 u r) := by
  obtain ⟨x, hx⟩ := lin_real h u
  obtain ⟨g, _, hg⟩ := h.scale (ix1 u)
  unfold normed apart average
  rw [hx, hg]
  exact affine_eq_plain x g (x4 (ix1 u)) (x r)

/-- The kernel's normalization of a segment's maximum is the maximum of the reference's normalized rows. -/
theorem norm_whole (h : Good x0 x1 x2 x3) (x4 : Cert.KernelIdeal.S64.Idx → EReal) (u : Fin 64) (r : ℕ) (hr : r < 320000) :
    affine (total (lin x0 x2 u)) (total fun r => lin x0 x2 u r * lin x0 x2 u r) (x3 (ix1 u)) (x4 (ix1 u))
        (whole (ids x1) (lin x0 x2 u) 320000 r)
      = whole (ids x1) (fun k => normed x0 x2 x3 x4 u (lin x0 x2 u k)) 320000 r := by
  rw [show (fun k => normed x0 x2 x3 x4 u (lin x0 x2 u k)) = fun k => affine (total (lin x0 x2 u))
    (total fun r => lin x0 x2 u r * lin x0 x2 u r) (x3 (ix1 u)) (x4 (ix1 u)) (lin x0 x2 u k) from
    funext fun k => (norm_row h x4 u k).symm]
  obtain ⟨x, hx⟩ := lin_real h u
  obtain ⟨g, h0, hg⟩ := h.scale (ix1 u)
  rw [hx, hg]
  exact affine_whole x g (x4 (ix1 u)) h0 (ids x1) r hr

end Args

/-- The two results are equal. -/
theorem result_eq (m : (ℓ : Loc Cert.KernelIdeal.nD Cert.KernelIdeal.τ Cert.KernelIdeal.sig) → Buf (Elt Ideal) ℓ)
    (c : Dev Cert.KernelIdeal.nD)
    (h : Good (features m c) (numbers m c) (weights m c) (gamma m c)) :
    (Cert.KernelIdeal.Own.result m c : Cert.KernelIdeal.S320000x128.Idx → EReal)
      = Cert.ReferenceIdeal.Read.val_main_v43 (F := Ideal) (features m c) (numbers m c) (weights m c) (gamma m c) (beta m c) := by
  have hs : Sorted (Cert.KernelIdeal.Own.id m c) (· ≤ ·) := sorted h
  have low := fun (r : Fin 320000) (u : Fin 64) => (result_low m c hs r u).trans ((norm_row h (beta m c) u r.val).trans
    (v43_low (features m c) (numbers m c) (weights m c) (gamma m c) (beta m c) r u).symm)
  have high := fun (r : Fin 320000) (u : Fin 64) => (result_high m c hs r u).trans
    ((norm_whole h (beta m c) u r.val r.isLt).trans
      (v43_high (features m c) (numbers m c) (weights m c) (gamma m c) (beta m c) r u (h.nonneg _ r.isLt) (h.below _ r.isLt)).symm)
  generalize Cert.ReferenceIdeal.Read.val_main_v43 (F := Ideal) (features m c) (numbers m c) (weights m c) (gamma m c) (beta m c) = y
    at low high ⊢
  generalize (Cert.KernelIdeal.Own.result m c : Cert.KernelIdeal.S320000x128.Idx → EReal) = z at low high ⊢
  funext i
  have hi : (i 1).val < 128 := (i 1).isLt
  rcases lt_or_ge (i 1).val 64 with hu | hu
  · have e : i = ix2 (i 0) ⟨(i 1).val, hi⟩ := funext fun a => by match a with | ⟨0, _⟩ => rfl | ⟨1, _⟩ => rfl
    rw [e]
    exact low (i 0) ⟨(i 1).val, hu⟩
  · have e : i = ix2 (i 0) ⟨64 + ((i 1).val - 64), by omega⟩ := funext fun a => by
      match a with
      | ⟨0, _⟩ => rfl
      | ⟨1, _⟩ => exact Fin.ext (by show (i 1).val = 64 + ((i 1).val - 64); omega)
    rw [e]
    exact high (i 0) ⟨(i 1).val - 64, by omega⟩

/-- From arguments that agree and are well formed, both programs run and end with equal results. -/
theorem algebraic : Cert.algebraic_KernelIdeal_ReferenceIdeal_pre_well_formed := fun m g m' g' hp ha =>
  ⟨Cert.KernelIdeal.Own.result m,
    (θ_run _ _ _).mono (fun _ h => h.1) (Cert.KernelIdeal.Own.run m g),
    (θ_run _ _ _).mono (fun r h c => ⟨(h c).1.trans (by
      obtain ⟨h0, h1, h2, h3, h4⟩ := ha c
      refine (Cert.ReferenceIdeal.Read.val_main_v43_eq m' c).trans ?_
      rw [h0, h1, h2, h3, h4]
      exact (result_eq m c (good _ _ _ _ _ (hp c))).symm), (h c).2⟩) (Cert.ReferenceIdeal.Value.run m' g')⟩

end Cert.Equal

end
-- ==== Proof.lean ====
/- The claims about the kernel and its reference, put together. -/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_well_formed
public import proofs.«01_k».proof.Proof.Gen.ReferenceIdeal.Run
public import proofs.«01_k».proof.Proof.Gen.ReferenceIdeal.Read

@[expose] public section

noncomputable section

namespace Cert.Proof

open Idealize.ShloMosaic Idealize.SL.Sem Cert.Kernel

/-- Everything claimed of the kernel. -/
theorem claim : Cert.Claim := ⟨Cert.Kernel.Gen.facts, Cert.KernelIdeal.Gen.facts, Cert.ReferenceIdeal.Gen.facts, Cert.Pre_well_formed.Gen.facts,
  kernel_frame, ideal_frame, fun m g _ => ideal_frame m g trivial, reference_frame, fun m g _ => reference_frame m g trivial, trivial,
  Cert.Equal.algebraic⟩

end Cert.Proof

end
